-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S24x128x256 : Shape := ⟨3, ![24, 128, 256]⟩
abbrev S24 : Shape := ⟨1, ![24]⟩
abbrev S_ : Shape := ⟨0, ![]⟩
abbrev S128x256 : Shape := ⟨2, ![128, 256]⟩
abbrev S128x512 : Shape := ⟨2, ![128, 512]⟩
abbrev S1x128x256 : Shape := ⟨3, ![1, 128, 256]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S24x128x256, .bf16⟩
  | .local _ .vmem, ⟨9, _⟩ => ⟨S24x128x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v33 : BitVec 32 := Scalar.xori v2 c1_i32_24
  let c1_i32_29 : BitVec 32 := 1#32
  let v34 : BitVec 32 := Scalar.muli v33 c1_i32_29
  let v35 : BitVec 32 := Scalar.addi c0_i32_30 v34
  v35.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v55 : BitVec 32 := Scalar.xori v2 c3_i32_41
  let c1_i32_46 : BitVec 32 := 1#32
  let v56 : BitVec 32 := Scalar.muli v55 c1_i32_46
  let v57 : BitVec 32 := Scalar.addi c0_i32_47 v56
  v57.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v77 : BitVec 32 := Scalar.xori v2 c1_i32_58
  let c1_i32_63 : BitVec 32 := 1#32
  let v78 : BitVec 32 := Scalar.muli v77 c1_i32_63
  let v79 : BitVec 32 := Scalar.addi c0_i32_64 v78
  v79.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_75 : BitVec 32 := 3#32
  let v99 : BitVec 32 := Scalar.xori v2 c3_i32_75
  let c1_i32_80 : BitVec 32 := 1#32
  let v100 : BitVec 32 := Scalar.muli v99 c1_i32_80
  let v101 : BitVec 32 := Scalar.addi c0_i32_81 v100
  v101.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_101 : BitVec 32 := 3#32
  let v124 : BitVec 32 := Scalar.xori v2 c3_i32_101
  let c1_i32_106 : BitVec 32 := 1#32
  let v125 : BitVec 32 := Scalar.muli v124 c1_i32_106
  let v126 : BitVec 32 := Scalar.addi c0_i32_107 v125
  v126.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_127 : BitVec 32 := 1#32
  let v149 : BitVec 32 := Scalar.xori v2 c1_i32_127
  let c1_i32_131 : BitVec 32 := 1#32
  let v150 : BitVec 32 := Scalar.muli v149 c1_i32_131
  let v151 : BitVec 32 := Scalar.addi c0_i32_132 v150
  v151.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_152 : BitVec 32 := 3#32
  let v174 : BitVec 32 := Scalar.xori v2 c3_i32_152
  let c1_i32_156 : BitVec 32 := 1#32
  let v175 : BitVec 32 := Scalar.muli v174 c1_i32_156
  let v176 : BitVec 32 := Scalar.addi c0_i32_157 v175
  v176.toNat
def k0_dev10 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_177 : BitVec 32 := 1#32
  let v199 : BitVec 32 := Scalar.xori v2 c1_i32_177
  let c1_i32_181 : BitVec 32 := 1#32
  let v200 : BitVec 32 := Scalar.muli v199 c1_i32_181
  let v201 : BitVec 32 := Scalar.addi c0_i32_182 v200
  v201.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_205 : BitVec 32 := 1#32
  let v230 : BitVec 32 := Scalar.xori v2 c1_i32_205
  let c1_i32_209 : BitVec 32 := 1#32
  let v231 : BitVec 32 := Scalar.muli v230 c1_i32_209
  let v232 : BitVec 32 := Scalar.addi c0_i32_210 v231
  v232.toNat
def k0_dev12 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_233 : BitVec 32 := 3#32
  let v261 : BitVec 32 := Scalar.xori v2 c3_i32_233
  let c1_i32_237 : BitVec 32 := 1#32
  let v262 : BitVec 32 := Scalar.muli v261 c1_i32_237
  let v263 : BitVec 32 := Scalar.addi c0_i32_238 v262
  v263.toNat
def k0_dev13 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_261 : BitVec 32 := 1#32
  let v292 : BitVec 32 := Scalar.xori v2 c1_i32_261
  let c1_i32_265 : BitVec 32 := 1#32
  let v293 : BitVec 32 := Scalar.muli v292 c1_i32_265
  let v294 : BitVec 32 := Scalar.addi c0_i32_266 v293
  v294.toNat
def k0_dev14 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_289 : BitVec 32 := 3#32
  let v323 : BitVec 32 := Scalar.xori v2 c3_i32_289
  let c1_i32_293 : BitVec 32 := 1#32
  let v324 : BitVec 32 := Scalar.muli v323 c1_i32_293
  let v325 : BitVec 32 := Scalar.addi c0_i32_294 v324
  v325.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_314 : BitVec 32 := 3#32
  let v348 : BitVec 32 := Scalar.xori v2 c3_i32_314
  let c1_i32_318 : BitVec 32 := 1#32
  let v349 : BitVec 32 := Scalar.muli v348 c1_i32_318
  let v350 : BitVec 32 := Scalar.addi c0_i32_319 v349
  v350.toNat
def k0_dev16 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_339 : BitVec 32 := 1#32
  let v373 : BitVec 32 := Scalar.xori v2 c1_i32_339
  let c1_i32_343 : BitVec 32 := 1#32
  let v374 : BitVec 32 := Scalar.muli v373 c1_i32_343
  let v375 : BitVec 32 := Scalar.addi c0_i32_344 v374
  v375.toNat
def k0_dev17 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_364 : BitVec 32 := 3#32
  let v398 : BitVec 32 := Scalar.xori v2 c3_i32_364
  let c1_i32_368 : BitVec 32 := 1#32
  let v399 : BitVec 32 := Scalar.muli v398 c1_i32_368
  let v400 : BitVec 32 := Scalar.addi c0_i32_369 v399
  v400.toNat
def k0_dev18 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_389 : BitVec 32 := 1#32
  let v423 : BitVec 32 := Scalar.xori v2 c1_i32_389
  let c1_i32_393 : BitVec 32 := 1#32
  let v424 : BitVec 32 := Scalar.muli v423 c1_i32_393
  let v425 : BitVec 32 := Scalar.addi c0_i32_394 v424
  v425.toNat
def k0_dev19 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_417 : BitVec 32 := 1#32
  let v454 : BitVec 32 := Scalar.xori v2 c1_i32_417
  let c1_i32_421 : BitVec 32 := 1#32
  let v455 : BitVec 32 := Scalar.muli v454 c1_i32_421
  let v456 : BitVec 32 := Scalar.addi c0_i32_422 v455
  v456.toNat
def k0_dev20 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v485 : BitVec 32 := Scalar.xori v2 c3_i32_445
  let c1_i32_449 : BitVec 32 := 1#32
  let v486 : BitVec 32 := Scalar.muli v485 c1_i32_449
  let v487 : BitVec 32 := Scalar.addi c0_i32_450 v486
  v487.toNat
def k0_dev21 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_473 : BitVec 32 := 1#32
  let v516 : BitVec 32 := Scalar.xori v2 c1_i32_473
  let c1_i32_477 : BitVec 32 := 1#32
  let v517 : BitVec 32 := Scalar.muli v516 c1_i32_477
  let v518 : BitVec 32 := Scalar.addi c0_i32_478 v517
  v518.toNat
def k0_dev22 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_501 : BitVec 32 := 3#32
  let v547 : BitVec 32 := Scalar.xori v2 c3_i32_501
  let c1_i32_505 : BitVec 32 := 1#32
  let v548 : BitVec 32 := Scalar.muli v547 c1_i32_505
  let v549 : BitVec 32 := Scalar.addi c0_i32_506 v548
  v549.toNat
def k0_dev23 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_526 : BitVec 32 := 3#32
  let v572 : BitVec 32 := Scalar.xori v2 c3_i32_526
  let c1_i32_530 : BitVec 32 := 1#32
  let v573 : BitVec 32 := Scalar.muli v572 c1_i32_530
  let v574 : BitVec 32 := Scalar.addi c0_i32_531 v573
  v574.toNat
def k0_dev24 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_551 : BitVec 32 := 1#32
  let v597 : BitVec 32 := Scalar.xori v2 c1_i32_551
  let c1_i32_555 : BitVec 32 := 1#32
  let v598 : BitVec 32 := Scalar.muli v597 c1_i32_555
  let v599 : BitVec 32 := Scalar.addi c0_i32_556 v598
  v599.toNat
def k0_dev25 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_576 : BitVec 32 := 3#32
  let v622 : BitVec 32 := Scalar.xori v2 c3_i32_576
  let c1_i32_580 : BitVec 32 := 1#32
  let v623 : BitVec 32 := Scalar.muli v622 c1_i32_580
  let v624 : BitVec 32 := Scalar.addi c0_i32_581 v623
  v624.toNat
def k0_dev26 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_601 : BitVec 32 := 1#32
  let v647 : BitVec 32 := Scalar.xori v2 c1_i32_601
  let c1_i32_605 : BitVec 32 := 1#32
  let v648 : BitVec 32 := Scalar.muli v647 c1_i32_605
  let v649 : BitVec 32 := Scalar.addi c0_i32_606 v648
  v649.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x2048 : Shape := ⟨2, ![256, 2048]⟩
abbrev S2048x256 : Shape := ⟨2, ![2048, 256]⟩
abbrev S512x2048 : Shape := ⟨2, ![512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S2048x256, .bf16⟩
  | .hbm, ⟨5, _⟩ => ⟨S2048x256, .bf16⟩
  | .hbm, ⟨6, _⟩ => ⟨S2048x256, .bf16⟩
  | .hbm, ⟨7, _⟩ => ⟨S512x256, .f32⟩
  | .hbm, ⟨8, _⟩ => ⟨S256x2048, .f32⟩
  | .hbm, ⟨9, _⟩ => ⟨S512x2048, .f32⟩
  | .hbm, ⟨10, _⟩ => ⟨S512x2048, .bf16⟩
  | .hbm, ⟨11, _⟩ => ⟨S_, .bf16⟩
  | .hbm, ⟨12, _⟩ => ⟨S512x2048, .bf16⟩
  | .hbm, ⟨13, _⟩ => ⟨S512x2048, .bf16⟩
  | .hbm, ⟨14, _⟩ => ⟨S512x2048, .f32⟩
  | .hbm, ⟨15, _⟩ => ⟨S2048x256, .f32⟩
  | .hbm, ⟨16, _⟩ => ⟨S512x256, .f32⟩
  | .hbm, ⟨17, _⟩ => ⟨S512x256, .bf16⟩
  | .hbm, ⟨18, _⟩ => ⟨S512x256, .f32⟩
  | .hbm, ⟨19, _⟩ => ⟨S256x2048, .f32⟩
  | .hbm, ⟨20, _⟩ => ⟨S512x2048, .f32⟩
  | .hbm, ⟨21, _⟩ => ⟨S512x2048, .bf16⟩
  | .hbm, ⟨22, _⟩ => ⟨S_, .bf16⟩
  | .hbm, ⟨23, _⟩ => ⟨S512x2048, .bf16⟩
  | .hbm, ⟨24, _⟩ => ⟨S512x2048, .bf16⟩
  | .hbm, ⟨25, _⟩ => ⟨S512x2048, .f32⟩
  | .hbm, ⟨26, _⟩ => ⟨S2048x256, .f32⟩
  | .hbm, ⟨27, _⟩ => ⟨S512x256, .f32⟩
  | .hbm, ⟨28, _⟩ => ⟨S512x256, .bf16⟩
  | .hbm, ⟨29, _⟩ => ⟨S512x256, .f32⟩
  | .hbm, ⟨30, _⟩ => ⟨S256x2048, .f32⟩
  | .hbm, ⟨31, _⟩ => ⟨S512x2048, .f32⟩
  | .hbm, ⟨32, _⟩ => ⟨S512x2048, .bf16⟩
  | .hbm, ⟨33, _⟩ => ⟨S_, .bf16⟩
  | .hbm, ⟨34, _⟩ => ⟨S512x2048, .bf16⟩
  | .hbm, ⟨35, _⟩ => ⟨S512x2048, .bf16⟩
  | .hbm, ⟨36, _⟩ => ⟨S512x2048, .f32⟩
  | .hbm, ⟨37, _⟩ => ⟨S2048x256, .f32⟩
  | .hbm, ⟨38, _⟩ => ⟨S512x256, .f32⟩
  | .hbm, ⟨39, _⟩ => ⟨S512x256, .bf16⟩
  | .hbm, ⟨40, _⟩ => ⟨S512x256, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Slots.lean ====
/- The mesh and the buffers of the all-reduced multilayer perceptron: which device a slot's transfer goes to, the slots of
   the send and receive buffers as memrefs, the semaphores of each slot, and how a buffer held whole is held slot by slot. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The exchange's partners -/

set_option backward.proofsInPublic true in
/-- The two partners of a device: the one whose number differs in the low bit, and the one whose number differs in both. -/
def peer (d : Bool) (c : Dev nD) : Dev nD := ⟨(c.val ^^^ (if d then 3 else 1)) % 4, Nat.mod_lt _ (by decide)⟩

theorem peer_peer (d : Bool) (c : Dev nD) : peer d (peer d c) = c := by revert c d; decide
theorem peer_comm (c : Dev nD) : peer true (peer false c) = peer false (peer true c) := by revert c; decide

def peerE (d : Bool) : Dev nD ≃ Dev nD := ⟨peer d, peer d, peer_peer d, peer_peer d⟩

/-- Which partner slot `k` goes to: the two partners alternate between the stages of a layer and between the row blocks. -/
def pm (k : Fin 24) : Bool := decide ((k.val % 4 + k.val / 4) % 2 = 1)
def par (k : Fin 24) (c : Dev nD) : Dev nD := peer (pm k) c

theorem par_par (k : Fin 24) (c : Dev nD) : par k (par k c) = c := peer_peer _ _

/-! ## The slots -/

set_option backward.proofsInPublic true in
theorem slot_inb (k : Fin 24) : ∀ a : Fin S24x128x256.rank, (![k.val, 0, 0] : Fin 3 → ℕ) a + S1x128x256.size a ≤ S24x128x256.size a := by
  revert k; decide

/-- Slot `k` of a buffer of twenty-four row blocks, as a rectangle. -/
abbrev slotR (k : Fin 24) : Rect S24x128x256 := Rect.unit (s := S24x128x256) ![k.val, 0, 0] S1x128x256.size (slot_inb k)

abbrev sendB : Memref sig .tc .vmem S24x128x256 .bf16 := Memref.whole cc0_scratch0
abbrev recvB : Memref sig .tc .vmem S24x128x256 .bf16 := Memref.whole cc0_scratch1

/-- Slot `k` of a buffer as the transfers name it: its row block. -/
abbrev slotM (M : Memref sig .tc .vmem S24x128x256 .bf16) (k : Fin 24) : Memref sig .tc .vmem S128x256 .bf16 :=
  (M.slice (slotR k) (fun _ => rfl)).squeeze S128x256 squeezes_S1x128x256_S128x256

theorem slot_set (M : Memref sig .tc .vmem S24x128x256 .bf16) (k : Fin 24) : (slotM M k).view.set = M.view.setOn (slotR k).set := by
  show ((M.view.slice (slotR k)).reshape S128x256 _).set = _
  rw [View.set_reshape, View.set_slice]; rfl

theorem slot_disjoint {k j : Fin 24} (h : k ≠ j) : Disjoint (slotR k).set (slotR j).set := by
  rw [Finset.disjoint_left]
  intro x hx hy
  rw [Rect.mem_set_unit] at hx hy
  have h1 := hx 0
  have h2 := hy 0
  apply h; apply Fin.ext
  simp [S1x128x256] at h1 h2
  omega

theorem slot_cover : (Finset.univ : Finset (Fin 24)).biUnion (fun k => (slotR k).set) = Finset.univ := by
  ext x
  simp only [Finset.mem_biUnion, Finset.mem_univ, true_and, iff_true]
  refine ⟨⟨(x 0).val, (x 0).isLt⟩, ?_⟩
  rw [Rect.mem_set_unit]
  have h1 := (x 1).isLt
  have h2 := (x 2).isLt
  intro a
  fin_cases a
  · simp [S1x128x256]
  · exact ⟨Nat.zero_le _, by simpa [S24x128x256, S1x128x256] using h1⟩
  · exact ⟨Nat.zero_le _, by simpa [S24x128x256, S1x128x256] using h2⟩

/-- A row block laid out as the one-slot array that is stored and loaded. -/
abbrev lift3 {α : Type} (x : S128x256.Idx → α) : S1x128x256.Idx → α := shapeCast S1x128x256 x shapeCasts_S128x256_S1x128x256
abbrev flat2 {α : Type} (x : S1x128x256.Idx → α) : S128x256.Idx → α := shapeCast S128x256 x shapeCasts_S1x128x256_S128x256

omit [FloatOps F] in
/-- A load of slot `k` through the whole buffer reads what the slot holds. -/
theorem load_slot (M : Memref sig .tc .vmem S24x128x256 .bf16) (k : Fin 24) (f : M.view.ty.Contents (Elt F)) :
    flat2 (M.view.readAt (Elt F) (slotR k).toLoadRect f) = (slotM M k).view.read (Elt F) f := rfl

omit [FloatOps F] in
theorem flat2_lift3 {α : Type} (x : S128x256.Idx → α) : flat2 (lift3 x) = x := shapeCast_shapeCast x _ _

omit [FloatOps F] in
theorem lift3_flat2 {α : Type} (x : S1x128x256.Idx → α) : lift3 (flat2 x) = x := shapeCast_shapeCast x _ _

omit [FloatOps F] in
/-- After a store of a row block to slot `k`, the slot holds that row block. -/
theorem store_slot (M : Memref sig .tc .vmem S24x128x256 .bf16) (k : Fin 24) (f : M.view.ty.Contents (Elt F)) (x : S128x256.Idx → Elt F .bf16) :
    (slotM M k).view.read (Elt F) ((M.access (slotR k)).write (Elt F) f (lift3 x) Finset.univ) = x := by
  have h : (M.view.slice (slotR k)).read (Elt F) ((M.view.slice (slotR k)).write (Elt F) f (lift3 x) Finset.univ) = lift3 x := View.read_write_univ (v := M.view.slice (slotR k)) f _
  calc _ = flat2 ((M.view.slice (slotR k)).read (Elt F) ((M.view.slice (slotR k)).write (Elt F) f (lift3 x) Finset.univ)) := rfl
    _ = _ := by rw [h, flat2_lift3]

/-! ## Holding a buffer slot by slot -/

/-- Slot `k` of a buffer of device `c`, at some contents. -/
def slotAny (M : Memref sig .tc .vmem S24x128x256 .bf16) (c : Dev nD) (k : Fin 24) : sProp 𝕄 :=
  iprop(∃ f : Buf (Elt F) ((slotM M k).view.loc (c : Thread nD τ)), (slotM M k).view.loc (c : Thread nD τ) ↦[(slotM M k).view.set]{fullShare} f)

/-- Slot `k` of a buffer of device `c`, holding the row block `x`. -/
def slotAt (M : Memref sig .tc .vmem S24x128x256 .bf16) (c : Dev nD) (k : Fin 24) (x : S128x256.Idx → Elt F .bf16) : sProp 𝕄 :=
  iprop(∃ f : Buf (Elt F) ((slotM M k).view.loc (c : Thread nD τ)), ⌜(slotM M k).view.read (Elt F) f = x⌝
    ∗ (slotM M k).view.loc (c : Thread nD τ) ↦[(slotM M k).view.set]{fullShare} f)

omit [FloatOps F] in
instance slotAny_storable (M) (c : Dev nD) (k) : BI.Storable (upEmb : UEmb _ 𝕄) (slotAny (F := F) M c k) := by unfold slotAny; infer_instance
omit [FloatOps F] in
instance slotAt_storable (M) (c : Dev nD) (k) (x) : BI.Storable (upEmb : UEmb _ 𝕄) (slotAt (F := F) M c k x) := by unfold slotAt; infer_instance

omit [FloatOps F] in
theorem slotAt_any (M) (c : Dev nD) (k) (x) : slotAt (F := F) M c k x ⊢ slotAny M c k := by
  unfold slotAt slotAny
  iintro ⟨%f, -, H⟩
  iexists f; iexact H

theorem slots_union (M : Memref sig .tc .vmem S24x128x256 .bf16) :
    M.view.set = (Finset.univ : Finset (Fin 24)).biUnion fun k => (slotM M k).view.set := by
  rw [Finset.biUnion_congr rfl (fun k _ => slot_set M k), show M.view.set = M.view.setOn Finset.univ from rfl, ← slot_cover]
  unfold View.setOn
  ext i; simp only [Finset.mem_map, Finset.mem_biUnion]
  constructor
  · rintro ⟨x, ⟨k, hk, hx⟩, rfl⟩; exact ⟨k, hk, x, hx, rfl⟩
  · rintro ⟨k, hk, x, hx, rfl⟩; exact ⟨x, ⟨k, hk, hx⟩, rfl⟩

theorem slots_disjoint (M : Memref sig .tc .vmem S24x128x256 .bf16) :
    ∀ k ∈ (Finset.univ : Finset (Fin 24)), ∀ j ∈ (Finset.univ : Finset (Fin 24)), k ≠ j → Disjoint (slotM M k).view.set (slotM M j).view.set := by
  intro k _ j _ h
  rw [slot_set, slot_set]
  exact (Finset.disjoint_map _).mpr (slot_disjoint h)

omit [FloatOps F] in
/-- A buffer held whole is held slot by slot; -/
theorem slots_split (M : Memref sig .tc .vmem S24x128x256 .bf16) (c : Dev nD) (f : Buf (Elt F) (M.view.loc (c : Thread nD τ))) :
    (M.view.loc (c : Thread nD τ) ↦[M.view.set]{fullShare} f : sProp 𝕄) ⊢ bigSep Finset.univ fun k => slotAny M c k := by
  rw [slots_union M, pointsTo_biUnion _ _ (slots_disjoint M)]
  exact bigSep_mono fun k _ => by
    unfold slotAny
    exact exists_intro (Φ := fun f : Buf (Elt F) ((slotM M k).view.loc (c : Thread nD τ)) =>
      (iprop((slotM M k).view.loc (c : Thread nD τ) ↦[(slotM M k).view.set]{fullShare} f) : sProp 𝕄)) f

omit [FloatOps F] in
/-- and a buffer held slot by slot is held whole. -/
theorem slots_join (M : Memref sig .tc .vmem S24x128x256 .bf16) (c : Dev nD) (f₀ : Buf (Elt F) (M.view.loc (c : Thread nD τ))) :
    (bigSep Finset.univ fun k => slotAny (F := F) M c k)
      ⊢ (iprop(∃ f : Buf (Elt F) (M.view.loc (c : Thread nD τ)), M.view.loc (c : Thread nD τ) ↦[M.view.set]{fullShare} f) : sProp 𝕄) := by
  unfold slotAny
  haveI : ∀ k : Fin 24, Nonempty (Buf (Elt F) ((slotM M k).view.loc (c : Thread nD τ))) := fun _ => ⟨f₀⟩
  iintro H
  ihave H' := (BI.bigSep_exists_pi Finset.univ (fun (k : Fin 24) (f : Buf (Elt F) ((slotM M k).view.loc (c : Thread nD τ))) =>
    (iprop((slotM M k).view.loc (c : Thread nD τ) ↦[(slotM M k).view.set]{fullShare} f) : sProp 𝕄))) $$ H
  icases H' with ⟨%fs, H⟩
  ihave H' := (pointsTo_biUnion_join (ℓ := M.view.loc (c : Thread nD τ)) Finset.univ (fun k => (slotM M k).view.set) fs f₀ (slots_disjoint M)) $$ H
  icases H' with ⟨%g, -, H⟩
  iexists g
  rw [slots_union M]
  iexact H

end Cert.Butterfly

end
-- ==== Proof.Contents.lean ====
/- What each device computes: the row blocks of its activations layer by layer, what each slot carries, and what the result
   holds at the end. -/
module

public import proofs.«01_k».proof.Proof.Slots

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The arrays a device starts from -/

def in0 (c : Dev nD) : (cc0_stg0_0 : Ref sig .tc).ty.Contents (Elt F) :=
  (win0_0.blk (0 : Fin 1)).view.read (Elt F) ((s₀ m ρ).mem ((c : Thread nD τ).loc main_arg0))
def in1 (c : Dev nD) : (cc0_stg1_0 : Ref sig .tc).ty.Contents (Elt F) :=
  (win0_1.blk (0 : Fin 1)).view.read (Elt F) ((s₀ m ρ).mem ((c : Thread nD τ).loc main_arg1))
def in2 (c : Dev nD) : (cc0_stg2_0 : Ref sig .tc).ty.Contents (Elt F) :=
  (win0_2.blk (0 : Fin 1)).view.read (Elt F) ((s₀ m ρ).mem ((c : Thread nD τ).loc main_arg4))
def in3 (c : Dev nD) : (cc0_stg3_0 : Ref sig .tc).ty.Contents (Elt F) :=
  (win0_3.blk (0 : Fin 1)).view.read (Elt F) ((s₀ m ρ).mem ((c : Thread nD τ).loc main_arg2))
def in4 (c : Dev nD) : (cc0_stg4_0 : Ref sig .tc).ty.Contents (Elt F) :=
  (win0_4.blk (0 : Fin 1)).view.read (Elt F) ((s₀ m ρ).mem ((c : Thread nD τ).loc main_arg5))
def in5 (c : Dev nD) : (cc0_stg5_0 : Ref sig .tc).ty.Contents (Elt F) :=
  (win0_5.blk (0 : Fin 1)).view.read (Elt F) ((s₀ m ρ).mem ((c : Thread nD τ).loc main_arg3))
def in6 (c : Dev nD) : (cc0_stg6_0 : Ref sig .tc).ty.Contents (Elt F) :=
  (win0_6.blk (0 : Fin 1)).view.read (Elt F) ((s₀ m ρ).mem ((c : Thread nD τ).loc main_arg6))

set_option backward.proofsInPublic true in
theorem row_inb (s : Fin 4) : ∀ a : Fin S512x256.rank, (![128 * s.val, 0] : Fin 2 → ℕ) a + S128x256.size a ≤ S512x256.size a := by
  revert s; decide

/-- Row block `s` of a 512-row array. -/
abbrev rowR (s : Fin 4) : Rect S512x256 := Rect.unit (s := S512x256) ![128 * s.val, 0] S128x256.size (row_inb s)

def xr (s : Fin 4) (c : Dev nD) : FVec F S128x256 .bf16 :=
  shapeCast S128x256 ((Memref.whole cc0_stg0_0 : Memref sig .tc .vmem S512x256 .bf16).view.readAt (Elt F) (rowR s).toLoadRect (in0 m ρ c))
    shapeCasts_S128x256_S128x256

def wi (l : ℕ) (c : Dev nD) : FVec F S256x512 .bf16 :=
  match l with
  | 0 => k0_pay1 (in1 m ρ c)
  | 1 => k0_pay2 (in3 m ρ c)
  | _ => k0_pay3 (in5 m ρ c)

def wo (l : ℕ) (c : Dev nD) : FVec F S512x256 .bf16 :=
  match l with
  | 0 => k0_pay4 (in2 m ρ c)
  | 1 => k0_pay5 (in4 m ρ c)
  | _ => k0_pay6 (in6 m ρ c)

/-! ## The layers -/

/-- One device's share of a layer on one row block: the product with its columns, the maximum with zero, and the product
    with its rows. -/
def comp (w1 : FVec F S256x512 .bf16) (w2 : FVec F S512x256 .bf16) (y : FVec F S128x256 .bf16) : FVec F S128x256 .bf16 :=
  truncf .bf16
    (matmul dot_S128x512_S512x256_S128x256_1_0_0_1_n_n none
      (truncf .bf16
        (maximumf
          (matmul dot_S128x256_S256x512_S128x512_1_0_0_1_n_n none y w1 (constant S128x512 .f32 0x00000000#32))
          (broadcast S128x512 (Scalar.ofBits .f32 0x00000000#32 : F .f32)))
        bitsLt_bf16_f32)
      w2 (constant S128x256 .f32 0x00000000#32))
    bitsLt_bf16_f32

/-- The partner of a row block in a layer's first exchange; the second exchange's is the other one. -/
def pd (s : Fin 4) : Bool := decide (s.val % 2 = 1)

/-- Row block `s` of the activations of device `c` after `l` layers. -/
def cur (s : Fin 4) : ℕ → Dev nD → FVec F S128x256 .bf16
  | 0, c => xr m ρ s c
  | l + 1, c =>
    addf
      (addf (comp (wi m ρ l c) (wo m ρ l c) (cur s l c))
        (comp (wi m ρ l (peer (pd s) c)) (wo m ρ l (peer (pd s) c)) (cur s l (peer (pd s) c))))
      (addf (comp (wi m ρ l (peer (!pd s) c)) (wo m ρ l (peer (!pd s) c)) (cur s l (peer (!pd s) c)))
        (comp (wi m ρ l (peer (pd s) (peer (!pd s) c))) (wo m ρ l (peer (pd s) (peer (!pd s) c))) (cur s l (peer (pd s) (peer (!pd s) c)))))

/-- A device's share of layer `l` on row block `s`; the sum of two devices' shares after the first exchange. -/
def part (s : Fin 4) (l : ℕ) (c : Dev nD) : FVec F S128x256 .bf16 := comp (wi m ρ l c) (wo m ρ l c) (cur m ρ s l c)
def half (s : Fin 4) (l : ℕ) (c : Dev nD) : FVec F S128x256 .bf16 := addf (part m ρ s l c) (part m ρ s l (peer (pd s) c))

theorem cur_succ (s : Fin 4) (l : ℕ) (c : Dev nD) : cur m ρ s (l + 1) c = addf (half m ρ s l c) (half m ρ s l (peer (!pd s) c)) := rfl

/-! ## The slots: layer by layer, exchange by exchange, row block by row block -/

abbrev rowOf (k : Fin 24) : Fin 4 := ⟨k.val % 4, Nat.mod_lt _ (by decide)⟩

/-- What device `c` sends through slot `k`. -/
def sent (k : Fin 24) (c : Dev nD) : FVec F S128x256 .bf16 :=
  if (k.val / 4) % 2 = 0 then part m ρ (rowOf k) (k.val / 8) c else half m ρ (rowOf k) (k.val / 8) c

/-! ## The result -/

/-- What device `c` writes to row block `s` of the result. -/
def outRow (s : Fin 4) (c : Dev nD) : FVec F S128x256 .f32 := extf .f32 (cur m ρ s 3 c) bitsLt_bf16_f32

/-- The result of device `c`: its four row blocks. -/
def outAt (c : Dev nD) : (cc0_stg7_0 : Ref sig .tc).ty.Contents (Elt F) := fun i : S512x256.Idx =>
  outRow m ρ ⟨(i 0).val / 128, by have h : (i 0).val < 512 := (i 0).isLt; omega⟩ c
    (fun a : Fin 2 => match a with
      | ⟨0, _⟩ => (⟨(i 0).val % 128, Nat.mod_lt _ (by decide)⟩ : Fin 128)
      | ⟨1, _⟩ => (i 1 : Fin 256))

end Cert.Butterfly

end
-- ==== Proof.Protocol.lean ====
/- The exchange's protocol: the cells, one round of duties at each, what each device owes at launch, and the levels at which
   it may wait. -/
module

public import proofs.«01_k».proof.Proof.Contents

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and cells -/

abbrev barS : Sem sig := (SemArray.scalar (sig.barrier 0 rfl) : Sems sig S_).sem

set_option backward.proofsInPublic true in
theorem sem_inb (k : Fin 24) : ∀ a : Fin S24.rank, (![k.val] : Fin 1 → ℕ) a + S1.size a ≤ S24.size a := by revert k; decide

abbrev sendS (k : Fin 24) : DmaSem sig :=
  (((cc0_scratch2 : DmaSems sig S24).slice (Rect.unit (s := S24) ![k.val] S1.size (sem_inb k))).squeeze S_ squeezes_S1_S_ : DmaSems sig S_).sem
abbrev recvS (k : Fin 24) : DmaSem sig :=
  (((cc0_scratch3 : DmaSems sig S24).slice (Rect.unit (s := S24) ![k.val] S1.size (sem_inb k))).squeeze S_ squeezes_S1_S_ : DmaSems sig S_).sem

theorem sendS_val (k : Fin 24) : (sendS k).val = 8 + k.val := by revert k; decide
theorem recvS_val (k : Fin 24) : (recvS k).val = 32 + k.val := by revert k; decide

abbrev barCell (c : Dev nD) : GSem nD τ sig := ((c : Thread nD τ), .reg barS)
abbrev sendCell (c : Dev nD) (k : Fin 24) : GSem nD τ sig := ((c : Thread nD τ), .dma (sendS k))
abbrev recvCell (c : Dev nD) (k : Fin 24) : GSem nD τ sig := ((c : Thread nD τ), .dma (recvS k))

/-- Which slot a semaphore belongs to, and whether it counts arrivals. -/
def slotOf (sm : SemLoc sig) : Option (Bool × Fin 24) :=
  match sm with
  | .dma q => if h : 8 ≤ q.val ∧ q.val < 32 then some (false, ⟨q.val - 8, by omega⟩)
      else if h : 32 ≤ q.val ∧ q.val < 56 then some (true, ⟨q.val - 32, by omega⟩) else none
  | _ => none

theorem slotOf_send (k : Fin 24) : slotOf (.dma (sendS k)) = some (false, k) := by
  have h := sendS_val k
  have hk := k.isLt
  unfold slotOf; dsimp only
  rw [dif_pos (by omega)]
  simp only [h, Nat.add_sub_cancel_left]
theorem slotOf_recv (k : Fin 24) : slotOf (.dma (recvS k)) = some (true, k) := by
  have h := recvS_val k
  have hk := k.isLt
  unfold slotOf; dsimp only
  rw [dif_neg (by omega), dif_pos (by omega)]
  simp only [h, Nat.add_sub_cancel_left]
theorem slotOf_bar : slotOf (.reg barS) = none := rfl
theorem slotOf_stage (q : DmaSem sig) (h : q.val < 8) : slotOf (.dma q) = none := by
  unfold slotOf; dsimp only
  rw [dif_neg (by omega), dif_neg (by omega)]

theorem slotOf_ne_bar {sm : SemLoc sig} {p} (h : slotOf sm = some p) : sm ≠ .reg barS := by
  rintro rfl; rw [slotOf_bar] at h; cases h
theorem send_ne_bar (k : Fin 24) : (SemLoc.dma (sendS k) : SemLoc sig) ≠ .reg barS := slotOf_ne_bar (slotOf_send k)
theorem recv_ne_bar (k : Fin 24) : (SemLoc.dma (recvS k) : SemLoc sig) ≠ .reg barS := slotOf_ne_bar (slotOf_recv k)

/-- The credit of one slot. -/
abbrev N : ℕ := (slotM recvB 0).view.dmaCredit
theorem N_pos : 0 < N := View.dmaCredit_pos _ (by decide)

/-! ## The schedule -/

/-- What `peer d c`'s signal hands `c`: those of `peer d c`'s receive slots that `c` writes. -/
def barPay (c : Dev nD) (d : Bool) : sProp 𝕄 := bigSep (Finset.univ.filter fun k => pm k = d) fun k => slotAny recvB (peer d c) k

def xferPay (c : Dev nD) (p : Bool × Fin 24) : sProp 𝕄 :=
  match p with
  | (false, k) => slotAny sendB c k
  | (true, k) => slotAt recvB c k (sent m ρ k (par k c))

/-- One round: a barrier cell has one unit from each partner; a send or receive cell the credit of its slot. -/
def Rd : Rounds.Schedule (GSem nD τ sig) Bool 𝕄 where
  duties g r := if r = 0 ∧ g.1.2 = .tc then (if g.2 = .reg barS then Finset.univ else if (slotOf g.2).isSome then {false} else ∅) else ∅
  unitless _ := False
  amount g _ _ := if g.2 = .reg barS then 1 else N
  payload g _ d :=
    if g.2 = .reg barS then barPay g.1.1 d
    else match slotOf g.2 with
      | some p => xferPay m ρ g.1.1 p
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Bool) :
    BI.Storable (upEmb : UEmb _ 𝕄) ((Rd (F := F) m ρ).payload g r d) := by
  show BI.Storable upEmb (if g.2 = .reg barS then barPay g.1.1 d
    else match slotOf g.2 with | some p => xferPay m ρ g.1.1 p | none => iprop(emp))
  split
  · unfold barPay; infer_instance
  · split
    · next p _ => rcases p with ⟨_ | _, k⟩ <;> (unfold xferPay; infer_instance)
    · infer_instance

section Sched
variable (c : Dev nD) (k : Fin 24)

theorem duties_bar : (Rd (F := F) m ρ).duties (barCell c) 0 = Finset.univ := by dsimp only [Rd]; rw [if_pos ⟨rfl, rfl⟩, if_pos rfl]
theorem duties_send : (Rd (F := F) m ρ).duties (sendCell c k) 0 = {false} := by
  dsimp only [Rd]; rw [if_pos ⟨rfl, rfl⟩, if_neg (send_ne_bar k), slotOf_send]; rfl
theorem duties_recv : (Rd (F := F) m ρ).duties (recvCell c k) 0 = {false} := by
  dsimp only [Rd]; rw [if_pos ⟨rfl, rfl⟩, if_neg (recv_ne_bar k), slotOf_recv]; rfl
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barCell c) 0 d = 1 := by dsimp only [Rd]; exact if_pos rfl
theorem amount_send (d : Bool) : (Rd (F := F) m ρ).amount (sendCell c k) 0 d = N := by dsimp only [Rd]; exact if_neg (send_ne_bar k)
theorem amount_recv (d : Bool) : (Rd (F := F) m ρ).amount (recvCell c k) 0 d = N := by dsimp only [Rd]; exact if_neg (recv_ne_bar k)

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Bool) : (Rd (F := F) m ρ).payload (barCell c) 0 d = barPay c d := by dsimp only [Rd]; rw [if_pos rfl]
theorem payload_send (d : Bool) : (Rd (F := F) m ρ).payload (sendCell c k) 0 d = slotAny sendB c k := by
  dsimp only [Rd]; rw [if_neg (send_ne_bar k), slotOf_send]; rfl
theorem payload_recv (d : Bool) : (Rd (F := F) m ρ).payload (recvCell c k) 0 d = slotAt recvB c k (sent m ρ k (par k c)) := by
  dsimp only [Rd]; rw [if_neg (recv_ne_bar k), slotOf_recv]; rfl

/-- The barrier's whole round: the partners' receive slots that `c` writes. -/
theorem rest_bar : bigSep ((Rd (F := F) m ρ).duties (barCell c) 0 \ ∅) (fun d => (Rd (F := F) m ρ).payload (barCell c) 0 d)
    ⊢ bigSep Finset.univ fun k => slotAny (F := F) recvB (par k c) k := by
  rw [Finset.sdiff_empty, duties_bar, bigSep_univ_eq_bigSepL [false, true] (by decide) (by decide), bigSepL_cons_cons, bigSepL_singleton,
    payload_bar, payload_bar]
  have h : ∀ d : Bool, barPay (F := F) c d = bigSep (Finset.univ.filter fun k => pm k = d) fun k => slotAny recvB (par k c) k := by
    intro d; unfold barPay
    exact bigSep_congr fun k hk => by rw [par, (Finset.mem_filter.mp hk).2]
  have hd : Disjoint (Finset.univ.filter fun k : Fin 24 => pm k = false) (Finset.univ.filter fun k : Fin 24 => pm k = true) := by decide
  have hu : (Finset.univ : Finset (Fin 24)) = (Finset.univ.filter fun k : Fin 24 => pm k = false) ∪ (Finset.univ.filter fun k : Fin 24 => pm k = true) := by decide
  rw [h, h, hu, bigSep_union hd]
  exact BI.Entails.refl _
theorem rest_send : bigSep ((Rd (F := F) m ρ).duties (sendCell c k) 0 \ ∅) (fun d => (Rd (F := F) m ρ).payload (sendCell c k) 0 d) = slotAny sendB c k := by
  rw [Finset.sdiff_empty, duties_send, bigSep_singleton, payload_send]
theorem rest_recv : bigSep ((Rd (F := F) m ρ).duties (recvCell c k) 0 \ ∅) (fun d => (Rd (F := F) m ρ).payload (recvCell c k) 0 d)
    = slotAt recvB c k (sent m ρ k (par k c)) := by
  rw [Finset.sdiff_empty, duties_recv, bigSep_singleton, payload_recv]

end Sched

/-! ## What each device owes; the levels -/

/-- What device `c` owes when its first `a` slots have been sent: the credit of each later slot, at the partner's receive cell. -/
def owed (c : Dev nD) (a : ℕ) : CellTallies nD τ sig Unit := ∑ k ∈ Finset.univ.filter (fun k : Fin 24 => a ≤ k.val), tallyAt (recvCell (par k c) k) () N
def O₁ (c : Dev nD) : CellTallies nD τ sig Unit := owed c 0 + tallyAt (barCell (peer true c)) () 1
def O₀ (c : Dev nD) : CellTallies nD τ sig Unit := O₁ c + tallyAt (barCell (peer false c)) () 1

theorem owed_step (c : Dev nD) (k : Fin 24) : owed c k.val = owed c (k.val + 1) + tallyAt (recvCell (par k c) k) () N := by
  unfold owed
  have h : (Finset.univ.filter fun j : Fin 24 => k.val ≤ j.val) = insert k (Finset.univ.filter fun j : Fin 24 => k.val + 1 ≤ j.val) := by
    ext j; simp only [Finset.mem_filter, Finset.mem_univ, true_and, Finset.mem_insert, Fin.ext_iff]; omega
  rw [h, Finset.sum_insert (by simp), add_comm]

theorem owed_end (c : Dev nD) : owed c 24 = 0 := by
  unfold owed
  rw [Finset.filter_eq_empty_iff.mpr (fun j _ => by have := j.isLt; omega), Finset.sum_empty]

def L (g : GSem nD τ sig) : Finset Unit := if g.1.2 = .tc then {()} else ∅
/-- barrier cells at 1, the receive cell of slot `k` at `k + 2`, everything else at 0. -/
def lv (g : GSem nD τ sig) (_ : Unit) : ℕ :=
  if g.2 = .reg barS then 1 else match slotOf g.2 with
    | some (true, k) => k.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 24) : lv (recvCell c k) () = k.val + 2 := by
  dsimp only [lv]; rw [if_neg (recv_ne_bar k), slotOf_recv]
theorem lv_send (c : Dev nD) (k : Fin 24) : lv (sendCell c k) () = 0 := by
  dsimp only [lv]; rw [if_neg (send_ne_bar k), slotOf_send]
theorem lv_stage (c : Dev nD) (q : DmaSem sig) (h : q.val < 8) : lv ((c : Thread nD τ), .dma q) () = 0 := by
  dsimp only [lv]; rw [if_neg (fun h => by cases h), slotOf_stage q h]

theorem owed_pos {c : Dev nD} {a : ℕ} {g : GSem nD τ sig} {u : Unit} (h : 0 < owed c a g u) :
    ∃ k : Fin 24, a ≤ k.val ∧ g = recvCell (par k c) k := by
  unfold owed at h
  rw [Finset.sum_apply, Finsupp.finset_sum_apply] at h
  obtain ⟨k, hk, hp⟩ := Finset.exists_ne_zero_of_sum_ne_zero (Nat.pos_iff_ne_zero.mp h)
  refine ⟨k, (Finset.mem_filter.mp hk).2, ?_⟩
  by_contra hn
  rw [tallyAt_apply, if_neg (fun h' => hn h'.1)] at hp
  exact hp rfl

theorem O₀_pos {c : Dev nD} {g : GSem nD τ sig} {u : Unit} (h : 0 < O₀ c g u) :
    (∃ k : Fin 24, g = recvCell (par k c) k) ∨ g = barCell (peer true c) ∨ g = barCell (peer false c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), add_zero, add_zero] at h
  obtain ⟨k, _, hk⟩ := owed_pos h
  exact hn.1 ⟨k, hk⟩

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact (lv_stage c q hq).le)
      (fun g u hg => by
        rcases O₀_pos hg with ⟨k, rfl⟩ | rfl | rfl
        · rw [lv_recv]; omega
        · rw [lv_bar]; omega
        · rw [lv_bar]; omega)
  · rw [MayWait_zero]; iintro -; iempintro

/-- A device that still owes the slots from `a` on may wait at a cell below slot `a`'s. -/
theorem mayWait_owed (c : Dev nD) (sm : SemLoc sig) (a : ℕ) (h : lv ((c : Thread nD τ), sm) () < a + 2) :
    (levAts L lv : sProp 𝕄) ⊢ MayWait (c : Thread nD τ) sm () (owed c a) :=
  MayOwe.of_cut (L := L) (lev := lv) (lv ((c : Thread nD τ), sm) ()) (fun p hp => by rw [Finset.mem_singleton.mp hp, L_tc]; exact Finset.mem_singleton_self _)
    (fun g u hg => by obtain ⟨k, _, rfl⟩ := owed_pos hg; exact Finset.mem_singleton_self _)
    (fun p hp => by rw [Finset.mem_singleton.mp hp])
    (fun g u hg => by obtain ⟨k, hk, rfl⟩ := owed_pos hg; rw [lv_recv]; omega)

end Cert.Butterfly

end
-- ==== Proof.Steps.lean ====
/- One rule per kind of step of the exchange: store a slot, send it, wait for an arrival, read it, wait for a sent slot to be
   free again. Each takes what a device holds in the middle of the exchange to what it holds one step later. -/
module

public import proofs.«01_k».proof.Proof.Protocol

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Every cell's invariant, and that every cell has reached round 0 -/

abbrev CI : Type := Unit ⊕ (Fin 24 ⊕ Fin 24)
/-- A device's cells: its barrier, its send cells, its receive cells. -/
abbrev csem : CI → SemLoc sig
  | .inl _ => .reg barS
  | .inr (.inl k) => .dma (sendS k)
  | .inr (.inr k) => .dma (recvS k)
abbrev kcell (p : Dev nD × CI) : GSem nD τ sig := ((p.1 : Thread nD τ), csem p.2)

def records (K : Dev nD × CI → ℕ) : sProp 𝕄 :=
  iprop((bigSep Finset.univ fun p : Dev nD × CI => cellInv ER (Rd m ρ) (K p) (kcell p))
    ∗ (bigSep Finset.univ fun p : Dev nD × CI => reached ER (kcell p) 0) ∗ levAts L lv)

instance records_persistent (K : Dev nD × CI → ℕ) : BI.Persistent (records m ρ K) := by unfold records; infer_instance

/-- One summand of a sum over a finite type. -/
theorem bs_elim {I : Type} [Fintype I] [DecidableEq I] (Φ : I → sProp 𝕄) (i : I) : (bigSep Finset.univ Φ : sProp 𝕄) ⊢ Φ i := bigSep_elim (Finset.mem_univ i)

theorem inv_at (K : Dev nD × CI → ℕ) (p : Dev nD × CI) : (records m ρ K : sProp 𝕄) ⊢ cellInv ER (Rd m ρ) (K p) (kcell p) := by
  unfold records
  iintro ⟨H, -, -⟩
  iapply (bs_elim (fun p : Dev nD × CI => cellInv ER (Rd m ρ) (K p) (kcell p)) p); iexact H
theorem reached_at (K : Dev nD × CI → ℕ) (p : Dev nD × CI) : (records m ρ K : sProp 𝕄) ⊢ reached ER (kcell p) 0 := by
  unfold records
  iintro ⟨-, H, -⟩
  iapply (bs_elim (fun p : Dev nD × CI => (reached ER (kcell p) 0 : sProp 𝕄)) p); iexact H
theorem lev_at (K : Dev nD × CI → ℕ) : (records m ρ K : sProp 𝕄) ⊢ levAts L lv := by
  unfold records
  iintro ⟨-, -, H⟩; iexact H

/-! ## What a device holds in the middle of the exchange -/

/-- The send side of slot `k` when the first `e` slots are stored, the first `a` are sent and the first `d` are free again. -/
def sendSt (c : Dev nD) (e a d : ℕ) (k : Fin 24) : sProp 𝕄 :=
  if k.val < a then
    (if k.val < d then iprop(slotAny sendB c k ∗ semVal (sendCell c k) 0)
      else iprop(cred (tallyAt (sendCell c k) () N) ∗ atPos ER (sendCell c k) 0 ∅ 0))
  else iprop((if k.val < e then slotAt sendB c k (sent m ρ k c) else slotAny sendB c k)
    ∗ slotAny recvB (par k c) k ∗ dutyTok ER (sendCell c k) 0 false ∗ atPos ER (sendCell c k) 0 ∅ 0 ∗ dutyTok ER (recvCell (par k c) k) 0 false)

/-- The receive side of slot `k` when the first `b` arrivals have been waited for. -/
def recvSt (c : Dev nD) (b : ℕ) (k : Fin 24) : sProp 𝕄 :=
  if k.val < b then iprop(slotAt recvB c k (sent m ρ k (par k c)) ∗ semVal (recvCell c k) 0)
  else iprop(cred (tallyAt (recvCell c k) () N) ∗ atPos ER (recvCell c k) 0 ∅ 0)

/-- A device in the middle of the exchange: `e` slots stored, `a` sent, `b` arrivals waited for, `d` sent slots free again. -/
def St (K : Dev nD × CI → ℕ) (c : Dev nD) (e a b d : ℕ) : sProp 𝕄 :=
  iprop(records m ρ K ∗ (bigSep Finset.univ fun k => sendSt m ρ c e a d k) ∗ (bigSep Finset.univ fun k => recvSt m ρ c b k)
    ∗ ∃ W, owes (c : Thread nD τ) (owed c a) W)

/-- One summand is taken out and another put back, the others being the same before and after. -/
theorem focus {Φ Ψ : Fin 24 → sProp 𝕄} {A B : sProp 𝕄} (i : Fin 24) (hA : Φ i = A) (hB : Ψ i = B) (h : ∀ j, j ≠ i → Ψ j = Φ j) :
    bigSep Finset.univ Φ ⊢ iprop(A ∗ (B -∗ bigSep Finset.univ Ψ)) := by
  rw [← hA, ← hB]; exact bigSep_univ_update i h

/-- A slot written whole with a row block holds that row block. -/
theorem slotAt_written (M : Memref sig .tc .vmem S24x128x256 .bf16) (c : Dev nD) (k : Fin 24) {x y : S128x256.Idx → Elt F .bf16} (h : y = x)
    (g : Buf (Elt F) ((slotM M k).view.loc (c : Thread nD τ))) :
    ((slotM M k).view.loc (c : Thread nD τ) ↦[(slotM M k).view.set]{fullShare} ((slotM M k).view.write (Elt F) g y Finset.univ) : sProp 𝕄)
      ⊢ slotAt M c k x := by
  subst h
  unfold slotAt
  iintro H
  iexists ((slotM M k).view.write (Elt F) g y Finset.univ)
  isplitr
  · ipureintro; exact View.read_write_univ (v := (slotM M k).view) g y
  · iexact H

section Steps
variable (K : Dev nD × CI → ℕ) (c : Dev nD) {e a b d : ℕ} (k : Fin 24)

theorem sendSt_raw (he : e ≤ k.val) (ha : a ≤ k.val) : sendSt m ρ c e a d k = iprop(slotAny sendB c k
    ∗ slotAny recvB (par k c) k ∗ dutyTok ER (sendCell c k) 0 false ∗ atPos ER (sendCell c k) 0 ∅ 0 ∗ dutyTok ER (recvCell (par k c) k) 0 false) := by
  unfold sendSt; rw [if_neg (by omega), if_neg (by omega)]
theorem sendSt_stored (he : k.val < e) (ha : a ≤ k.val) : sendSt m ρ c e a d k = iprop(slotAt sendB c k (sent m ρ k c)
    ∗ slotAny recvB (par k c) k ∗ dutyTok ER (sendCell c k) 0 false ∗ atPos ER (sendCell c k) 0 ∅ 0 ∗ dutyTok ER (recvCell (par k c) k) 0 false) := by
  unfold sendSt; rw [if_neg (by omega), if_pos he]
theorem sendSt_sent (ha : k.val < a) (hd : d ≤ k.val) : sendSt m ρ c e a d k = iprop(cred (tallyAt (sendCell c k) () N) ∗ atPos ER (sendCell c k) 0 ∅ 0) := by
  unfold sendSt; rw [if_pos ha, if_neg (by omega)]
theorem sendSt_free (ha : k.val < a) (hd : k.val < d) : sendSt m ρ c e a d k = iprop(slotAny sendB c k ∗ semVal (sendCell c k) 0) := by
  unfold sendSt; rw [if_pos ha, if_pos hd]
theorem recvSt_due (hb : b ≤ k.val) : recvSt m ρ c b k = iprop(cred (tallyAt (recvCell c k) () N) ∗ atPos ER (recvCell c k) 0 ∅ 0) := by
  unfold recvSt; rw [if_neg (by omega)]
theorem recvSt_here (hb : k.val < b) : recvSt m ρ c b k = iprop(slotAt recvB c k (sent m ρ k (par k c)) ∗ semVal (recvCell c k) 0) := by
  unfold recvSt; rw [if_pos hb]

/-- A slot not yet stored is read, and what it holds is not used. -/
theorem wp_peek (he : e ≤ k.val) (ha : a ≤ k.val) {hl : sendB.view.LoadsAt (slotR k).toLoadRect} {α : Type} {Q : α → sProp 𝕄}
    {n : ((slotR k).toLoadRect.shape.Idx → Elt F .bf16) → Prog (TpuEff nD τ sig (Elt F) Λ₀ .tc) α} :
    (St m ρ K c e a b d : sProp 𝕄)
      ⊢ iprop((∀ v, St m ρ K c e a b d -∗ wp frame (wpE (defs₀ (F := F)) 𝒱₀ (c : Thread nD τ) none) Set.univ (n v) Q)
        -∗ wp frame (wpE (defs₀ (F := F)) 𝒱₀ (c : Thread nD τ) none) Set.univ (.op (.load sendB (slotR k).toLoadRect hl) n) Q) := by
  unfold St
  iintro ⟨#HR, HS, HV, HO⟩ Hk
  ihave HS' := (focus (Φ := fun k => sendSt m ρ c e a d k) (Ψ := fun k => sendSt m ρ c e a d k) k
    (sendSt_raw m ρ c k he ha) (sendSt_raw m ρ c k he ha) (fun _ _ => rfl)) $$ HS
  icases HS' with ⟨⟨Hf, Hrest⟩, Hback⟩
  unfold slotAny
  icases Hf with ⟨%f, Hf⟩
  iapply (wp_load 𝒱₀ (c : Thread nD τ) none Set.univ (m := sendB) (r := (slotR k).toLoadRect) (by rw [slot_set])) $$ Hf
  iintro Hf
  iapply Hk
  isplitr; · iexact HR
  isplitl [Hf Hrest Hback]
  · iapply Hback
    isplitl [Hf]; · iexists f; iexact Hf
    iexact Hrest
  isplitl [HV] <;> iassumption

/-- The next slot is stored. -/
theorem wp_put (he : e = k.val) (ha : a ≤ k.val) {pay : (slotR k).shape.Idx → Elt F .bf16} (hpay : pay = lift3 (sent m ρ k c))
    {hx : (sendB.access (slotR k)).Stores Finset.univ} {hm : (Finset.univ : Finset (slotR k).shape.Idx) = Finset.univ ∨ ∀ a, (slotR k).stride a = 1}
    {α : Type} {Q : α → sProp 𝕄} {n : PUnit → Prog (TpuEff nD τ sig (Elt F) Λ₀ .tc) α} :
    (St m ρ K c e a b d : sProp 𝕄)
      ⊢ iprop((St m ρ K c (k.val + 1) a b d -∗ wp frame (wpE (defs₀ (F := F)) 𝒱₀ (c : Thread nD τ) none) Set.univ (n ⟨⟩) Q)
        -∗ wp frame (wpE (defs₀ (F := F)) 𝒱₀ (c : Thread nD τ) none) Set.univ (.op (.store sendB (slotR k) pay Finset.univ hx hm) n) Q) := by
  subst he hpay
  unfold St
  iintro ⟨#HR, HS, HV, HO⟩ Hk
  ihave HS' := (focus (Φ := fun j => sendSt m ρ c k.val a d j) (Ψ := fun j => sendSt m ρ c (k.val + 1) a d j) k
    (sendSt_raw m ρ c k le_rfl ha) (sendSt_stored m ρ c k (Nat.lt_succ_self _) ha) (fun j hj => by
      have hj' : j.val ≠ k.val := fun h => hj (Fin.ext h)
      unfold sendSt
      by_cases h : j.val < k.val
      · rw [if_pos h, if_pos (show j.val < k.val + 1 by omega)]
      · rw [if_neg h, if_neg (show ¬ j.val < k.val + 1 by omega)])) $$ HS
  icases HS' with ⟨⟨Hf, Hrest⟩, Hback⟩
  unfold slotAny
  icases Hf with ⟨%f, Hf⟩
  iapply (wp_store 𝒱₀ (c : Thread nD τ) none Set.univ (m := sendB) (r := slotR k) (w := lift3 (sent m ρ k c)) (Mk := Finset.univ)
    (S := (slotM sendB k).view.set) (by rw [slot_set]; exact (View.set_slice _ _).le)) $$ Hf
  iintro Hf
  iapply Hk
  isplitr; · iexact HR
  isplitl [Hf Hrest Hback]
  · iapply Hback
    isplitl [Hf]
    · unfold slotAt
      iexists ((sendB.access (slotR k)).write (Elt F) f (lift3 (sent m ρ k c)) Finset.univ)
      isplitr
      · ipureintro; exact store_slot sendB k f (sent m ρ k c)
      · iexact Hf
    iexact Hrest
  isplitl [HV] <;> iassumption

/-- The next slot is sent to its partner `n`: the credit of the partner's receive cell is paid. -/
theorem wp_launch (he : k.val < e) (ha : a = k.val) (hd : d ≤ k.val) {n : Dev nD} (hn : n = par k c)
    {hsc : (slotM recvB k : Memref sig (Dev.tc n : Thread nD τ).2.kind .vmem S128x256 .bf16).view.ref.isScScratch = false}
    {hsrc : (slotM sendB k).view.WordExact} {hdst : (slotM recvB k).view.WordExact}
    {hsem : DmaTarget.Typed .vmem (.dma (recvS k)) (.remote (Dev.tc n : Thread nD τ) (slotM recvB k) (.dma (sendS k)) hsc)}
    {α : Type} {Q : α → sProp 𝕄} {q : PUnit → Prog (TpuEff nD τ sig (Elt F) Λ₀ .tc) α} :
    (St m ρ K c e a b d : sProp 𝕄)
      ⊢ iprop((St m ρ K c e (k.val + 1) b d -∗ wp frame (wpE (defs₀ (F := F)) 𝒱₀ (c : Thread nD τ) none) Set.univ (q ⟨⟩) Q)
        -∗ wp frame (wpE (defs₀ (F := F)) 𝒱₀ (c : Thread nD τ) none) Set.univ
          (.op (.enqueueDma (slotM sendB k) (.remote (Dev.tc n : Thread nD τ) (slotM recvB k) (.dma (sendS k)) hsc) (.dma (recvS k)) hsrc hdst hsem) q) Q) := by
  subst ha hn
  unfold St
  iintro ⟨#HR, HS, HV, ⟨%W, HO⟩⟩ Hk
  ihave HS' := (focus (Φ := fun j => sendSt m ρ c e k.val d j) (Ψ := fun j => sendSt m ρ c e (k.val + 1) d j) k
    (sendSt_stored m ρ c k he le_rfl) (sendSt_sent m ρ c k (Nat.lt_succ_self _) hd) (fun j hj => by
      have hj' : j.val ≠ k.val := fun h => hj (Fin.ext h)
      unfold sendSt
      by_cases h : j.val < k.val
      · rw [if_pos h, if_pos (show j.val < k.val + 1 by omega)]
      · rw [if_neg h, if_neg (show ¬ j.val < k.val + 1 by omega)])) $$ HS
  icases HS' with ⟨⟨Hf, Hg, HtS, HaS, HtV⟩, Hback⟩
  unfold slotAt slotAny
  icases Hf with ⟨%f, %hf, Hf⟩
  icases Hg with ⟨%g, Hg⟩
  iapply (Rounds.wp_send_pointsTo 𝒱₀ ER (Rd m ρ) (c : Thread nD τ) none (κ₁ := K (c, .inr (.inl k))) (κ₂ := K (par k c, .inr (.inr k)))
      (r₁ := 0) (r₂ := 0) (d₁ := false) (d₂ := false) (fs := f) (fd := g)
      (by rw [duties_send]; exact Finset.mem_singleton_self _) (by rw [duties_recv]; exact Finset.mem_singleton_self _)
      () () N rfl (amount_send m ρ c k false) (amount_recv m ρ (par k c) k false) (owed c (k.val + 1)) (owed_step c k) (W := W)
      (by rw [payload_send]; unfold slotAny
          iintro H; iexists f; iexact H)
      (by rw [payload_recv, par_par]; exact slotAt_written recvB (par k c) k hf g)) $$ [Hf Hg HO HtS HtV]
  · isplitr; · iapply (inv_at m ρ K (c, .inr (.inl k))); iexact HR
    isplitr; · iapply (inv_at m ρ K (par k c, .inr (.inr k))); iexact HR
    isplitl [Hf]; · iexact Hf
    isplitl [Hg]; · iexact Hg
    isplitl [HO]; · iexact HO
    isplitl [HtS]; · iexact HtS
    isplitr; · iapply (reached_at m ρ K (c, .inr (.inl k))); iexact HR
    isplitl [HtV]; · iexact HtV
    iapply (reached_at m ρ K (par k c, .inr (.inr k))); iexact HR
  iintro ⟨Hc, HO⟩
  iapply Hk
  isplitr; · iexact HR
  isplitl [Hc HaS Hback]
  · iapply Hback
    isplitl [Hc] <;> iassumption
  isplitl [HV]; · iexact HV
  iexists W; iexact HO

/-- The next arrival is waited for: the slot holds what the partner sent, and its cell is closed. -/
theorem wp_rwait (hb : b = k.val) (ha : k.val < a) {hsrc : (slotM sendB k).view.WordExact} {hdst : (slotM recvB k).view.WordExact}
    {α : Type} {Q : α → sProp 𝕄} {q : PUnit → Prog (TpuEff nD τ sig (Elt F) Λ₀ .tc) α} :
    (St m ρ K c e a b d : sProp 𝕄)
      ⊢ iprop((St m ρ K c e a (k.val + 1) d -∗ wp frame (wpE (defs₀ (F := F)) 𝒱₀ (c : Thread nD τ) none) Set.univ (q ⟨⟩) Q)
        -∗ wp frame (wpE (defs₀ (F := F)) 𝒱₀ (c : Thread nD τ) none) Set.univ
          (.op (.waitDma2 (recvS k) (slotM sendB k) (slotM recvB k) hsrc hdst) q) Q) := by
  subst hb
  unfold St
  iintro ⟨#HR, HS, HV, ⟨%W, HO⟩⟩ Hk
  ihave HV' := (focus (Φ := fun j => recvSt m ρ c k.val j) (Ψ := fun j => recvSt m ρ c (k.val + 1) j) k
    (recvSt_due m ρ c k le_rfl) (recvSt_here m ρ c k (Nat.lt_succ_self _)) (fun j hj => by
      have hj' : j.val ≠ k.val := fun h => hj (Fin.ext h)
      unfold recvSt
      by_cases h : j.val < k.val
      · rw [if_pos h, if_pos (show j.val < k.val + 1 by omega)]
      · rw [if_neg h, if_neg (show ¬ j.val < k.val + 1 by omega)])) $$ HV
  icases HV' with ⟨⟨Hc, Ha⟩, Hback⟩
  iapply (Rounds.wp_wait_rest_token 𝒱₀ ER (Rd m ρ) (c : Thread nD τ) none (κ := K (c, .inr (.inr k)))
      (wpE_waitDma2_eq 𝒱₀ (c : Thread nD τ) none Set.univ) (Set.mem_univ _) () (O := owed c a) (W := W) (R := 0) (m := 0) (T := ∅)
      (by rw [Nat.zero_add, expect_recv])) $$ [Hc HO Ha]
  · isplitr; · iapply (inv_at m ρ K (c, .inr (.inr k))); iexact HR
    isplitl [Hc]; · iexact Hc
    isplitl [HO]; · iexact HO
    isplitr
    · iapply (mayWait_owed c (.dma (recvS k)) a (by rw [lv_recv]; omega))
      iapply (lev_at m ρ K); iexact HR
    iexact Ha
  iintro ⟨HO, Ha, -, Hpay⟩
  ihave Hpay := (Entails.of_eq (rest_recv m ρ c k)) $$ Hpay
  imod (Rounds.cell_close ER (Rd m ρ) (Set.mem_univ (K (c, .inr (.inr k)))) (fun h => h) (R := 0 + 1) (duties_later m ρ (recvCell c k))) $$ [Ha] with Hz
  · isplitr; · iapply (inv_at m ρ K (c, .inr (.inr k))); iexact HR
    iexact Ha
  iapply Hk
  isplitr; · iexact HR
  isplitl [HS]; · iexact HS
  isplitl [Hpay Hz Hback]
  · iapply Hback
    isplitl [Hpay] <;> iassumption
  iexists _; iexact HO

/-- An arrived slot is read: what the partner sent. -/
theorem wp_get (hb : k.val < b) {hl : recvB.view.LoadsAt (slotR k).toLoadRect} {α : Type} {Q : α → sProp 𝕄}
    {n : ((slotR k).toLoadRect.shape.Idx → Elt F .bf16) → Prog (TpuEff nD τ sig (Elt F) Λ₀ .tc) α} :
    (St m ρ K c e a b d : sProp 𝕄)
      ⊢ iprop((St m ρ K c e a b d -∗ wp frame (wpE (defs₀ (F := F)) 𝒱₀ (c : Thread nD τ) none) Set.univ (n (lift3 (sent m ρ k (par k c)))) Q)
        -∗ wp frame (wpE (defs₀ (F := F)) 𝒱₀ (c : Thread nD τ) none) Set.univ (.op (.load recvB (slotR k).toLoadRect hl) n) Q) := by
  unfold St
  iintro ⟨#HR, HS, HV, HO⟩ Hk
  ihave HV' := (focus (Φ := fun k => recvSt m ρ c b k) (Ψ := fun k => recvSt m ρ c b k) k
    (recvSt_here m ρ c k hb) (recvSt_here m ρ c k hb) (fun _ _ => rfl)) $$ HV
  icases HV' with ⟨⟨Hf, Hrest⟩, Hback⟩
  unfold slotAt
  icases Hf with ⟨%f, %hf, Hf⟩
  iapply (wp_load 𝒱₀ (c : Thread nD τ) none Set.univ (m := recvB) (r := (slotR k).toLoadRect) (by rw [slot_set])) $$ Hf
  iintro Hf
  have hv : recvB.view.readAt (Elt F) (slotR k).toLoadRect f = lift3 (sent m ρ k (par k c)) := by
    rw [← hf, ← load_slot]; exact (lift3_flat2 _).symm
  rw [hv]
  iapply Hk
  isplitr; · iexact HR
  isplitl [HS]; · iexact HS
  isplitl [Hf Hrest Hback]
  · iapply Hback
    isplitl [Hf]
    · iexists f
      isplitr; · ipureintro; exact hf
      iexact Hf
    iexact Hrest
  iexact HO

/-- The next sent slot is free again, and its cell is closed. -/
theorem wp_swait (hd : d = k.val) (ha : k.val < a) {hsrc : (slotM recvB k).view.WordExact} {hdst : (slotM sendB k).view.WordExact}
    {α : Type} {Q : α → sProp 𝕄} {q : PUnit → Prog (TpuEff nD τ sig (Elt F) Λ₀ .tc) α} :
    (St m ρ K c e a b d : sProp 𝕄)
      ⊢ iprop((St m ρ K c e a b (k.val + 1) -∗ wp frame (wpE (defs₀ (F := F)) 𝒱₀ (c : Thread nD τ) none) Set.univ (q ⟨⟩) Q)
        -∗ wp frame (wpE (defs₀ (F := F)) 𝒱₀ (c : Thread nD τ) none) Set.univ
          (.op (.waitDma2 (sendS k) (slotM recvB k) (slotM sendB k) hsrc hdst) q) Q) := by
  subst hd
  unfold St
  iintro ⟨#HR, HS, HV, ⟨%W, HO⟩⟩ Hk
  ihave HS' := (focus (Φ := fun j => sendSt m ρ c e a k.val j) (Ψ := fun j => sendSt m ρ c e a (k.val + 1) j) k
    (sendSt_sent m ρ c k ha le_rfl) (sendSt_free m ρ c k ha (Nat.lt_succ_self _)) (fun j hj => by
      have hj' : j.val ≠ k.val := fun h => hj (Fin.ext h)
      unfold sendSt
      by_cases h : j.val < k.val
      · rw [if_pos h, if_pos (show j.val < k.val + 1 by omega)]
      · rw [if_neg h, if_neg (show ¬ j.val < k.val + 1 by omega)])) $$ HS
  icases HS' with ⟨⟨Hc, Ha⟩, Hback⟩
  iapply (Rounds.wp_wait_rest_token 𝒱₀ ER (Rd m ρ) (c : Thread nD τ) none (κ := K (c, .inr (.inl k)))
      (wpE_waitDma2_eq 𝒱₀ (c : Thread nD τ) none Set.univ) (Set.mem_univ _) () (O := owed c a) (W := W) (R := 0) (m := 0) (T := ∅)
      (by rw [Nat.zero_add, expect_send])) $$ [Hc HO Ha]
  · isplitr; · iapply (inv_at m ρ K (c, .inr (.inl k))); iexact HR
    isplitl [Hc]; · iexact Hc
    isplitl [HO]; · iexact HO
    isplitr
    · iapply (mayWait_owed c (.dma (sendS k)) a (by rw [lv_send]; omega))
      iapply (lev_at m ρ K); iexact HR
    iexact Ha
  iintro ⟨HO, Ha, -, Hpay⟩
  ihave Hpay := (Entails.of_eq (rest_send m ρ c k)) $$ Hpay
  imod (Rounds.cell_close ER (Rd m ρ) (Set.mem_univ (K (c, .inr (.inl k)))) (fun h => h) (R := 0 + 1) (duties_later m ρ (sendCell c k))) $$ [Ha] with Hz
  · isplitr; · iapply (inv_at m ρ K (c, .inr (.inl k))); iexact HR
    iexact Ha
  iapply Hk
  isplitr; · iexact HR
  isplitl [Hpay Hz Hback]
  · iapply Hback
    isplitl [Hpay] <;> iassumption
  isplitl [HV]; · iexact HV
  iexists _; iexact HO

/-- A slot of the first exchange: stored and sent. -/
theorem wp_first (k : Fin 24) {pay : (slotR k).shape.Idx → Elt F .bf16} (hpay : pay = lift3 (sent m ρ k c)) {n : Dev nD} (hn : n = par k c)
    {hl : sendB.view.LoadsAt (slotR k).toLoadRect}
    {hx : (sendB.access (slotR k)).Stores Finset.univ} {hm : (Finset.univ : Finset (slotR k).shape.Idx) = Finset.univ ∨ ∀ a, (slotR k).stride a = 1}
    {hsc : (slotM recvB k : Memref sig (Dev.tc n : Thread nD τ).2.kind .vmem S128x256 .bf16).view.ref.isScScratch = false}
    {hsrc : (slotM sendB k).view.WordExact} {hdst : (slotM recvB k).view.WordExact}
    {hsem : DmaTarget.Typed .vmem (.dma (recvS k)) (.remote (Dev.tc n : Thread nD τ) (slotM recvB k) (.dma (sendS k)) hsc)}
    {α : Type} {Q : α → sProp 𝕄} {q : PUnit → Prog (TpuEff nD τ sig (Elt F) Λ₀ .tc) α} :
    (St m ρ K c k.val k.val b 0 : sProp 𝕄)
      ⊢ iprop((St m ρ K c (k.val + 1) (k.val + 1) b 0 -∗ wp frame (wpE (defs₀ (F := F)) 𝒱₀ (c : Thread nD τ) none) Set.univ (q ⟨⟩) Q)
        -∗ wp frame (wpE (defs₀ (F := F)) 𝒱₀ (c : Thread nD τ) none) Set.univ
          (.op (.load sendB (slotR k).toLoadRect hl) fun _ => .op (.store sendB (slotR k) pay Finset.univ hx hm) fun _ =>
            .op (.enqueueDma (slotM sendB k) (.remote (Dev.tc n : Thread nD τ) (slotM recvB k) (.dma (sendS k)) hsc) (.dma (recvS k)) hsrc hdst hsem) q) Q) := by
  iintro HSt Hk
  iapply (wp_peek m ρ K c k le_rfl le_rfl) $$ HSt; iintro %v HSt
  iapply (wp_put m ρ K c k rfl le_rfl hpay) $$ HSt; iintro HSt
  iapply (wp_launch m ρ K c k (Nat.lt_succ_self _) rfl (Nat.zero_le _) hn) $$ HSt; iintro HSt
  iapply Hk; iexact HSt

/-- A slot of a later exchange: the arrival four slots back is waited for and read, and what is made of it is stored and sent. -/
theorem wp_round (j k : Fin 24) (hk : k.val = j.val + 4) {pay : ((slotR j).toLoadRect.shape.Idx → Elt F .bf16) → (slotR k).shape.Idx → Elt F .bf16}
    (hpay : pay (lift3 (sent m ρ j (par j c))) = lift3 (sent m ρ k c)) {n : Dev nD} (hn : n = par k c)
    {hsrc' : (slotM sendB j).view.WordExact} {hdst' : (slotM recvB j).view.WordExact} {hl' : recvB.view.LoadsAt (slotR j).toLoadRect}
    {hl : sendB.view.LoadsAt (slotR k).toLoadRect}
    {hx : (sendB.access (slotR k)).Stores Finset.univ} {hm : (Finset.univ : Finset (slotR k).shape.Idx) = Finset.univ ∨ ∀ a, (slotR k).stride a = 1}
    {hsc : (slotM recvB k : Memref sig (Dev.tc n : Thread nD τ).2.kind .vmem S128x256 .bf16).view.ref.isScScratch = false}
    {hsrc : (slotM sendB k).view.WordExact} {hdst : (slotM recvB k).view.WordExact}
    {hsem : DmaTarget.Typed .vmem (.dma (recvS k)) (.remote (Dev.tc n : Thread nD τ) (slotM recvB k) (.dma (sendS k)) hsc)}
    {α : Type} {Q : α → sProp 𝕄}
    {q : ((slotR j).toLoadRect.shape.Idx → Elt F .bf16) → PUnit → Prog (TpuEff nD τ sig (Elt F) Λ₀ .tc) α} :
    (St m ρ K c k.val k.val j.val 0 : sProp 𝕄)
      ⊢ iprop((St m ρ K c (k.val + 1) (k.val + 1) (j.val + 1) 0 -∗ wp frame (wpE (defs₀ (F := F)) 𝒱₀ (c : Thread nD τ) none) Set.univ
            (q (lift3 (sent m ρ j (par j c))) ⟨⟩) Q)
        -∗ wp frame (wpE (defs₀ (F := F)) 𝒱₀ (c : Thread nD τ) none) Set.univ
          (.op (.waitDma2 (recvS j) (slotM sendB j) (slotM recvB j) hsrc' hdst') fun _ => .op (.load recvB (slotR j).toLoadRect hl') fun v =>
            .op (.load sendB (slotR k).toLoadRect hl) fun _ => .op (.store sendB (slotR k) (pay v) Finset.univ hx hm) fun _ =>
            .op (.enqueueDma (slotM sendB k) (.remote (Dev.tc n : Thread nD τ) (slotM recvB k) (.dma (sendS k)) hsc) (.dma (recvS k)) hsrc hdst hsem) (q v)) Q) := by
  iintro HSt Hk
  iapply (wp_rwait m ρ K c j rfl (by omega)) $$ HSt; iintro HSt
  iapply (wp_get m ρ K c j (Nat.lt_succ_self _)) $$ HSt; iintro HSt
  iapply (wp_first m ρ K c k hpay hn) $$ HSt; iintro HSt
  iapply Hk; iexact HSt

end Steps

end Cert.Butterfly

end
-- ==== Proof.Ghost.lean ====
/- What a device's kernel starts from and ends with, how the start becomes the state the exchange begins in, and how the
   state the exchange ends in is handed back. -/
module

public import proofs.«01_k».proof.Proof.Steps

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the kernel addresses -/

omit [FloatOps F] in
theorem dev1_eq (c : Dev nD) : (⟨k0_dev1 c, k0_dev1_lt c⟩ : Dev nD) = peer false c := by revert c; decide
omit [FloatOps F] in
theorem dev2_eq (c : Dev nD) : (⟨k0_dev2 c, k0_dev2_lt c⟩ : Dev nD) = peer true c := by revert c; decide

omit [FloatOps F] in
theorem dev3_eq (c : Dev nD) : (⟨k0_dev3 c, k0_dev3_lt c⟩ : Dev nD) = par ⟨0, by decide⟩ c := by revert c; decide
omit [FloatOps F] in
theorem dev4_eq (c : Dev nD) : (⟨k0_dev4 c, k0_dev4_lt c⟩ : Dev nD) = par ⟨1, by decide⟩ c := by revert c; decide
omit [FloatOps F] in
theorem dev5_eq (c : Dev nD) : (⟨k0_dev5 c, k0_dev5_lt c⟩ : Dev nD) = par ⟨2, by decide⟩ c := by revert c; decide
omit [FloatOps F] in
theorem dev6_eq (c : Dev nD) : (⟨k0_dev6 c, k0_dev6_lt c⟩ : Dev nD) = par ⟨3, by decide⟩ c := by revert c; decide
omit [FloatOps F] in
theorem dev7_eq (c : Dev nD) : (⟨k0_dev7 c, k0_dev7_lt c⟩ : Dev nD) = par ⟨4, by decide⟩ c := by revert c; decide
omit [FloatOps F] in
theorem dev8_eq (c : Dev nD) : (⟨k0_dev8 c, k0_dev8_lt c⟩ : Dev nD) = par ⟨5, by decide⟩ c := by revert c; decide
omit [FloatOps F] in
theorem dev9_eq (c : Dev nD) : (⟨k0_dev9 c, k0_dev9_lt c⟩ : Dev nD) = par ⟨6, by decide⟩ c := by revert c; decide
omit [FloatOps F] in
theorem dev10_eq (c : Dev nD) : (⟨k0_dev10 c, k0_dev10_lt c⟩ : Dev nD) = par ⟨7, by decide⟩ c := by revert c; decide
omit [FloatOps F] in
theorem dev11_eq (c : Dev nD) : (⟨k0_dev11 c, k0_dev11_lt c⟩ : Dev nD) = par ⟨8, by decide⟩ c := by revert c; decide
omit [FloatOps F] in
theorem dev12_eq (c : Dev nD) : (⟨k0_dev12 c, k0_dev12_lt c⟩ : Dev nD) = par ⟨9, by decide⟩ c := by revert c; decide
omit [FloatOps F] in
theorem dev13_eq (c : Dev nD) : (⟨k0_dev13 c, k0_dev13_lt c⟩ : Dev nD) = par ⟨10, by decide⟩ c := by revert c; decide
omit [FloatOps F] in
theorem dev14_eq (c : Dev nD) : (⟨k0_dev14 c, k0_dev14_lt c⟩ : Dev nD) = par ⟨11, by decide⟩ c := by revert c; decide
omit [FloatOps F] in
theorem dev15_eq (c : Dev nD) : (⟨k0_dev15 c, k0_dev15_lt c⟩ : Dev nD) = par ⟨12, by decide⟩ c := by revert c; decide
omit [FloatOps F] in
theorem dev16_eq (c : Dev nD) : (⟨k0_dev16 c, k0_dev16_lt c⟩ : Dev nD) = par ⟨13, by decide⟩ c := by revert c; decide
omit [FloatOps F] in
theorem dev17_eq (c : Dev nD) : (⟨k0_dev17 c, k0_dev17_lt c⟩ : Dev nD) = par ⟨14, by decide⟩ c := by revert c; decide
omit [FloatOps F] in
theorem dev18_eq (c : Dev nD) : (⟨k0_dev18 c, k0_dev18_lt c⟩ : Dev nD) = par ⟨15, by decide⟩ c := by revert c; decide
omit [FloatOps F] in
theorem dev19_eq (c : Dev nD) : (⟨k0_dev19 c, k0_dev19_lt c⟩ : Dev nD) = par ⟨16, by decide⟩ c := by revert c; decide
omit [FloatOps F] in
theorem dev20_eq (c : Dev nD) : (⟨k0_dev20 c, k0_dev20_lt c⟩ : Dev nD) = par ⟨17, by decide⟩ c := by revert c; decide
omit [FloatOps F] in
theorem dev21_eq (c : Dev nD) : (⟨k0_dev21 c, k0_dev21_lt c⟩ : Dev nD) = par ⟨18, by decide⟩ c := by revert c; decide
omit [FloatOps F] in
theorem dev22_eq (c : Dev nD) : (⟨k0_dev22 c, k0_dev22_lt c⟩ : Dev nD) = par ⟨19, by decide⟩ c := by revert c; decide
omit [FloatOps F] in
theorem dev23_eq (c : Dev nD) : (⟨k0_dev23 c, k0_dev23_lt c⟩ : Dev nD) = par ⟨20, by decide⟩ c := by revert c; decide
omit [FloatOps F] in
theorem dev24_eq (c : Dev nD) : (⟨k0_dev24 c, k0_dev24_lt c⟩ : Dev nD) = par ⟨21, by decide⟩ c := by revert c; decide
omit [FloatOps F] in
theorem dev25_eq (c : Dev nD) : (⟨k0_dev25 c, k0_dev25_lt c⟩ : Dev nD) = par ⟨22, by decide⟩ c := by revert c; decide
omit [FloatOps F] in
theorem dev26_eq (c : Dev nD) : (⟨k0_dev26 c, k0_dev26_lt c⟩ : Dev nD) = par ⟨23, by decide⟩ c := by revert c; decide

/-! ## The start and the end -/

/-- A device's positions and the tokens of the duties it pays, at the names the launch allocated the cells' invariants. -/
def ghost (K : Dev nD × CI → ℕ) (c : Dev nD) : sProp 𝕄 :=
  iprop(records m ρ K ∗ atPos ER (barCell c) 0 ∅ 0
    ∗ dutyTok ER (barCell (peer false c)) 0 false ∗ dutyTok ER (barCell (peer true c)) 0 true
    ∗ (bigSep Finset.univ fun k => (dutyTok ER (sendCell c k) 0 false : sProp 𝕄))
    ∗ (bigSep Finset.univ fun k => (atPos ER (sendCell c k) 0 ∅ 0 : sProp 𝕄))
    ∗ (bigSep Finset.univ fun k => (dutyTok ER (recvCell (par k c) k) 0 false : sProp 𝕄))
    ∗ (bigSep Finset.univ fun k => (atPos ER (recvCell c k) 0 ∅ 0 : sProp 𝕄)))

def start (c : Dev nD) : sProp 𝕄 :=
  iprop((∃ K, ghost m ρ K c) ∗ cred (tallyAt (barCell c) () 2) ∗ (bigSep Finset.univ fun k => (cred (tallyAt (recvCell c k) () N) : sProp 𝕄)))

/-- The two slot buffers, whole, at some contents. -/
def scr0 (c : Dev nD) : sProp 𝕄 := iprop(∃ f : Buf (Elt F) ((c : Thread nD τ).loc cc0_scratch0), ((c : Thread nD τ).loc cc0_scratch0) ↦{fullShare} f)
def scr1 (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m ρ c ∗ scr0 (F := F) c ∗ scr1 (F := F) c)

def Φ₁ (c : Dev nD) : sProp 𝕄 :=
  iprop((bigSep Finset.univ fun k => slotAny (F := F) sendB c k) ∗ (bigSep Finset.univ fun k => slotAny (F := F) recvB c k)
    ∗ (bigSep Finset.univ fun k => (semVal (sendCell c k) 0 : sProp 𝕄)) ∗ (bigSep Finset.univ fun k => (semVal (recvCell c k) 0 : sProp 𝕄))
    ∗ semVal (barCell c) 0)

/-! ## Into the exchange and out of it -/

theorem scr0_slots (c : Dev nD) : (scr0 (F := F) c : sProp 𝕄) ⊢ bigSep Finset.univ fun k => slotAny (F := F) sendB c k := by
  unfold scr0
  iintro ⟨%f, H⟩
  iapply (slots_split sendB c f)
  simp only [Memref.view_whole, View.set_whole]
  iexact H
theorem scr1_slots (c : Dev nD) : (scr1 (F := F) c : sProp 𝕄) ⊢ bigSep Finset.univ fun k => slotAny (F := F) recvB c k := by
  unfold scr1
  iintro ⟨%f, H⟩
  iapply (slots_split recvB c f)
  simp only [Memref.view_whole, View.set_whole]
  iexact H

/-- A device's receive slots, dealt into what it hands to its two partners. -/
theorem recv_deal (c : Dev nD) : (bigSep Finset.univ fun k => slotAny (F := F) recvB c k)
    ⊢ (iprop(barPay (peer false c) false ∗ barPay (peer true c) true) : sProp 𝕄) := by
  have hd : Disjoint (Finset.univ.filter fun k : Fin 24 => pm k = false) (Finset.univ.filter fun k : Fin 24 => pm k = true) := by decide
  have hu : (Finset.univ : Finset (Fin 24)) = (Finset.univ.filter fun k : Fin 24 => pm k = false) ∪ (Finset.univ.filter fun k : Fin 24 => pm k = true) := by decide
  unfold barPay
  rw [peer_peer, peer_peer]
  conv_lhs => rw [hu, bigSep_union hd]
  exact BI.Entails.refl _

theorem assemble (K : Dev nD × CI → ℕ) (c : Dev nD) (W : Waits sig Unit) :
    (iprop(records m ρ K ∗ (bigSep Finset.univ fun k => slotAny (F := F) sendB c k) ∗ (bigSep Finset.univ fun k => slotAny (F := F) recvB (par k c) k)
        ∗ (bigSep Finset.univ fun k => (dutyTok ER (sendCell c k) 0 false : sProp 𝕄))
        ∗ (bigSep Finset.univ fun k => (atPos ER (sendCell c k) 0 ∅ 0 : sProp 𝕄))
        ∗ (bigSep Finset.univ fun k => (dutyTok ER (recvCell (par k c) k) 0 false : sProp 𝕄))
        ∗ (bigSep Finset.univ fun k => (cred (tallyAt (recvCell c k) () N) : sProp 𝕄))
        ∗ (bigSep Finset.univ fun k => (atPos ER (recvCell c k) 0 ∅ 0 : sProp 𝕄)) ∗ owes (c : Thread nD τ) (owed c 0) W) : sProp 𝕄)
      ⊢ St m ρ K c 0 0 0 0 := by
  unfold St
  rw [bigSep_congr fun k _ => sendSt_raw m ρ c k (Nat.zero_le _) (Nat.zero_le _) (d := 0), bigSep_congr fun k _ => recvSt_due m ρ c k (Nat.zero_le _)]
  simp only [bigSep_sep']
  iintro ⟨HR, H1, H2, H3, H4, H5, H6, H7, HO⟩
  isplitl [HR]; · iexact HR
  isplitl [H1 H2 H3 H4 H5]
  · isplitl [H1]; · iexact H1
    isplitl [H2]; · iexact H2
    isplitl [H3]; · iexact H3
    isplitl [H4] <;> iassumption
  isplitl [H6 H7]
  · isplitl [H6] <;> iassumption
  iexists W; iexact HO

theorem finish (K : Dev nD × CI → ℕ) (c : Dev nD) :
    (St m ρ K c 24 24 24 24 : sProp 𝕄)
      ⊢ iprop((bigSep Finset.univ fun k => slotAny (F := F) sendB c k) ∗ (bigSep Finset.univ fun k => slotAny (F := F) recvB c k)
    ∗ (bigSep Finset.univ fun k => (semVal (sendCell c k) 0 : sProp 𝕄)) ∗ (bigSep Finset.univ fun k => (semVal (recvCell c k) 0 : sProp 𝕄))
    ∗ ∃ W, owes (c : Thread nD τ) 0 W) := by
  unfold St
  rw [bigSep_congr fun k _ => sendSt_free m ρ c k k.isLt k.isLt, bigSep_congr fun k _ => recvSt_here m ρ c k k.isLt, owed_end]
  simp only [bigSep_sep']
  iintro ⟨-, ⟨H1, H2⟩, ⟨H3, H4⟩, HO⟩
  isplitl [H1]; · iexact H1
  isplitl [H3]
  · iapply (show (bigSep Finset.univ fun k => slotAt recvB c k (sent m ρ k (par k c)) : sProp 𝕄) ⊢ bigSep Finset.univ fun k => slotAny (F := F) recvB c k
      from bigSep_mono fun k _ => slotAt_any recvB c k _)
    iexact H3
  isplitl [H2]; · iexact H2
  isplitl [H4] <;> iassumption

end Cert.Butterfly

end
-- ==== Proof.Folds.lean ====
/- The values the kernel computes from what it reads, as what its slots carry. -/
module

public import proofs.«01_k».proof.Proof.Contents

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

abbrev xM : Memref sig .tc .vmem S512x256 .bf16 := Memref.whole cc0_stg0_0
abbrev oM : Memref sig .tc .vmem S512x256 .f32 := Memref.whole cc0_stg7_0

/-- A load of row block `s` of the activations. -/
def xload (s : Fin 4) (c : Dev nD) : S128x256.Idx → Elt F .bf16 := xM.view.readAt (Elt F) (rowR s).toLoadRect (in0 m ρ c)

theorem pm_first (j : Fin 24) (h : (j.val / 4) % 2 = 0) : pm j = pd (rowOf j) := by revert j; decide
theorem pm_second (j : Fin 24) (h : (j.val / 4) % 2 = 1) : pm j = !pd (rowOf j) := by revert j; decide

/-- After a layer's first exchange a device holds the sum of two shares. -/
theorem half_step (j k : Fin 24) (hk : k.val = j.val + 4) (h : (j.val / 4) % 2 = 0) :
    addf (sent m ρ j c) (flat2 (lift3 (sent m ρ j (par j c)))) = sent m ρ k c := by
  have h1 : ¬ (k.val / 4) % 2 = 0 := by omega
  have h2 : rowOf k = rowOf j := Fin.ext (by show k.val % 4 = j.val % 4; omega)
  have h3 : k.val / 8 = j.val / 8 := by omega
  rw [flat2_lift3]
  unfold sent
  rw [if_pos h, if_pos h, if_neg h1, h2, h3, par, pm_first j h]
  rfl

/-- After its second exchange, the sum of the four. -/
theorem cur_step (j : Fin 24) (h : (j.val / 4) % 2 = 1) :
    addf (sent m ρ j c) (flat2 (lift3 (sent m ρ j (par j c)))) = cur m ρ (rowOf j) (j.val / 8 + 1) c := by
  have h1 : ¬ (j.val / 4) % 2 = 0 := by omega
  rw [flat2_lift3]
  unfold sent
  rw [if_neg h1, if_neg h1, par, pm_second j h]
  rfl

/-- And it computes its share of the next layer. -/
theorem part_step (j k : Fin 24) (l : ℕ) (hl : k.val / 8 = l) (hk : k.val = j.val + 4) (h : (j.val / 4) % 2 = 1) :
    comp (wi m ρ l c) (wo m ρ l c) (addf (sent m ρ j c) (flat2 (lift3 (sent m ρ j (par j c))))) = sent m ρ k c := by
  subst hl
  have h1 : (k.val / 4) % 2 = 0 := by omega
  have h2 : rowOf k = rowOf j := Fin.ext (by show k.val % 4 = j.val % 4; omega)
  have h3 : k.val / 8 = j.val / 8 + 1 := by omega
  rw [cur_step m ρ c j h]
  unfold sent
  rw [if_pos h1, h2, h3]
  rfl

/-- After the last exchange, a row block of the result. -/
theorem out_step (j : Fin 24) (s : Fin 4) (hs : rowOf j = s) (h : 20 ≤ j.val) :
    extf .f32 (addf (sent m ρ j c) (flat2 (lift3 (sent m ρ j (par j c))))) bitsLt_bf16_f32 = outRow m ρ s c := by
  subst hs
  have h3 : j.val / 8 + 1 = 3 := by have := j.isLt; omega
  rw [cur_step m ρ c j (by have := j.isLt; omega), h3]
  rfl

/-! ## The weights, and each slot's value in the kernel's own text -/

theorem w1_0 : k0_pay1 (in1 m ρ c) = wi m ρ 0 c := rfl
theorem w1_1 : k0_pay2 (in3 m ρ c) = wi m ρ 1 c := rfl
theorem w1_2 : k0_pay3 (in5 m ρ c) = wi m ρ 2 c := rfl
theorem w2_0 : k0_pay4 (in2 m ρ c) = wo m ρ 0 c := rfl
theorem w2_1 : k0_pay5 (in4 m ρ c) = wo m ρ 1 c := rfl
theorem w2_2 : k0_pay6 (in6 m ρ c) = wo m ρ 2 c := rfl

theorem keep_0 : k0_pay7 (in1 m ρ c) (in2 m ρ c) (xload m ρ 0 c) = sent m ρ ⟨0, by decide⟩ c := rfl
theorem keep_1 : k0_pay9 (wi m ρ 0 c) (wo m ρ 0 c) (xload m ρ 1 c) = sent m ρ ⟨1, by decide⟩ c := rfl
theorem keep_2 : k0_pay11 (wi m ρ 0 c) (wo m ρ 0 c) (xload m ρ 2 c) = sent m ρ ⟨2, by decide⟩ c := rfl
theorem keep_3 : k0_pay13 (wi m ρ 0 c) (wo m ρ 0 c) (xload m ρ 3 c) = sent m ρ ⟨3, by decide⟩ c := rfl
theorem keep_4 : k0_pay15 (sent m ρ ⟨0, by decide⟩ c) (lift3 (sent m ρ ⟨0, by decide⟩ (par ⟨0, by decide⟩ c))) = sent m ρ ⟨4, by decide⟩ c := half_step m ρ c ⟨0, by decide⟩ ⟨4, by decide⟩ rfl rfl
theorem keep_5 : k0_pay17 (sent m ρ ⟨1, by decide⟩ c) (lift3 (sent m ρ ⟨1, by decide⟩ (par ⟨1, by decide⟩ c))) = sent m ρ ⟨5, by decide⟩ c := half_step m ρ c ⟨1, by decide⟩ ⟨5, by decide⟩ rfl rfl
theorem keep_6 : k0_pay19 (sent m ρ ⟨2, by decide⟩ c) (lift3 (sent m ρ ⟨2, by decide⟩ (par ⟨2, by decide⟩ c))) = sent m ρ ⟨6, by decide⟩ c := half_step m ρ c ⟨2, by decide⟩ ⟨6, by decide⟩ rfl rfl
theorem keep_7 : k0_pay21 (sent m ρ ⟨3, by decide⟩ c) (lift3 (sent m ρ ⟨3, by decide⟩ (par ⟨3, by decide⟩ c))) = sent m ρ ⟨7, by decide⟩ c := half_step m ρ c ⟨3, by decide⟩ ⟨7, by decide⟩ rfl rfl
theorem keep_8 : k0_pay23 (wi m ρ 1 c) (wo m ρ 1 c) (sent m ρ ⟨4, by decide⟩ c) (lift3 (sent m ρ ⟨4, by decide⟩ (par ⟨4, by decide⟩ c))) = sent m ρ ⟨8, by decide⟩ c := part_step m ρ c ⟨4, by decide⟩ ⟨8, by decide⟩ 1 rfl rfl rfl
theorem keep_9 : k0_pay25 (wi m ρ 1 c) (wo m ρ 1 c) (sent m ρ ⟨5, by decide⟩ c) (lift3 (sent m ρ ⟨5, by decide⟩ (par ⟨5, by decide⟩ c))) = sent m ρ ⟨9, by decide⟩ c := part_step m ρ c ⟨5, by decide⟩ ⟨9, by decide⟩ 1 rfl rfl rfl
theorem keep_10 : k0_pay28 (wo m ρ 1 c) (k0_pay27 (wi m ρ 1 c) (sent m ρ ⟨6, by decide⟩ c) (lift3 (sent m ρ ⟨6, by decide⟩ (par ⟨6, by decide⟩ c)))) = sent m ρ ⟨10, by decide⟩ c := part_step m ρ c ⟨6, by decide⟩ ⟨10, by decide⟩ 1 rfl rfl rfl
theorem keep_11 : k0_pay31 (wi m ρ 1 c) (wo m ρ 1 c) (k0_pay30 (sent m ρ ⟨7, by decide⟩ c) (lift3 (sent m ρ ⟨7, by decide⟩ (par ⟨7, by decide⟩ c)))) (constant S128x512 .f32 0x00000000#32) = sent m ρ ⟨11, by decide⟩ c := part_step m ρ c ⟨7, by decide⟩ ⟨11, by decide⟩ 1 rfl rfl rfl
theorem keep_12 : k0_pay33 (sent m ρ ⟨8, by decide⟩ c) (lift3 (sent m ρ ⟨8, by decide⟩ (par ⟨8, by decide⟩ c))) = sent m ρ ⟨12, by decide⟩ c := half_step m ρ c ⟨8, by decide⟩ ⟨12, by decide⟩ rfl rfl
theorem keep_13 : k0_pay35 (sent m ρ ⟨9, by decide⟩ c) (lift3 (sent m ρ ⟨9, by decide⟩ (par ⟨9, by decide⟩ c))) = sent m ρ ⟨13, by decide⟩ c := half_step m ρ c ⟨9, by decide⟩ ⟨13, by decide⟩ rfl rfl
theorem keep_14 : k0_pay37 (sent m ρ ⟨10, by decide⟩ c) (lift3 (sent m ρ ⟨10, by decide⟩ (par ⟨10, by decide⟩ c))) = sent m ρ ⟨14, by decide⟩ c := half_step m ρ c ⟨10, by decide⟩ ⟨14, by decide⟩ rfl rfl
theorem keep_15 : k0_pay39 (sent m ρ ⟨11, by decide⟩ c) (lift3 (sent m ρ ⟨11, by decide⟩ (par ⟨11, by decide⟩ c))) = sent m ρ ⟨15, by decide⟩ c := half_step m ρ c ⟨11, by decide⟩ ⟨15, by decide⟩ rfl rfl
theorem keep_16 : k0_pay41 (wi m ρ 2 c) (wo m ρ 2 c) (sent m ρ ⟨12, by decide⟩ c) (lift3 (sent m ρ ⟨12, by decide⟩ (par ⟨12, by decide⟩ c))) = sent m ρ ⟨16, by decide⟩ c := part_step m ρ c ⟨12, by decide⟩ ⟨16, by decide⟩ 2 rfl rfl rfl
theorem keep_17 : k0_pay43 (wi m ρ 2 c) (wo m ρ 2 c) (sent m ρ ⟨13, by decide⟩ c) (lift3 (sent m ρ ⟨13, by decide⟩ (par ⟨13, by decide⟩ c))) = sent m ρ ⟨17, by decide⟩ c := part_step m ρ c ⟨13, by decide⟩ ⟨17, by decide⟩ 2 rfl rfl rfl
theorem keep_18 : k0_pay45 (wi m ρ 2 c) (wo m ρ 2 c) (sent m ρ ⟨14, by decide⟩ c) (lift3 (sent m ρ ⟨14, by decide⟩ (par ⟨14, by decide⟩ c))) = sent m ρ ⟨18, by decide⟩ c := part_step m ρ c ⟨14, by decide⟩ ⟨18, by decide⟩ 2 rfl rfl rfl
theorem keep_19 : k0_pay48 (wo m ρ 2 c) (k0_pay47 (wi m ρ 2 c) (sent m ρ ⟨15, by decide⟩ c) (lift3 (sent m ρ ⟨15, by decide⟩ (par ⟨15, by decide⟩ c)))) = sent m ρ ⟨19, by decide⟩ c := part_step m ρ c ⟨15, by decide⟩ ⟨19, by decide⟩ 2 rfl rfl rfl
theorem keep_20 : k0_pay50 (sent m ρ ⟨16, by decide⟩ c) (lift3 (sent m ρ ⟨16, by decide⟩ (par ⟨16, by decide⟩ c))) = sent m ρ ⟨20, by decide⟩ c := half_step m ρ c ⟨16, by decide⟩ ⟨20, by decide⟩ rfl rfl
theorem keep_21 : k0_pay52 (sent m ρ ⟨17, by decide⟩ c) (lift3 (sent m ρ ⟨17, by decide⟩ (par ⟨17, by decide⟩ c))) = sent m ρ ⟨21, by decide⟩ c := half_step m ρ c ⟨17, by decide⟩ ⟨21, by decide⟩ rfl rfl
theorem keep_22 : k0_pay54 (sent m ρ ⟨18, by decide⟩ c) (lift3 (sent m ρ ⟨18, by decide⟩ (par ⟨18, by decide⟩ c))) = sent m ρ ⟨22, by decide⟩ c := half_step m ρ c ⟨18, by decide⟩ ⟨22, by decide⟩ rfl rfl
theorem keep_23 : k0_pay56 (sent m ρ ⟨19, by decide⟩ c) (lift3 (sent m ρ ⟨19, by decide⟩ (par ⟨19, by decide⟩ c))) = sent m ρ ⟨23, by decide⟩ c := half_step m ρ c ⟨19, by decide⟩ ⟨23, by decide⟩ rfl rfl

/-! ## The result -/

theorem out_0 : k0_pay58 (sent m ρ ⟨20, by decide⟩ c) (lift3 (sent m ρ ⟨20, by decide⟩ (par ⟨20, by decide⟩ c))) = outRow m ρ 0 c := out_step m ρ c ⟨20, by decide⟩ 0 rfl (by decide)
theorem out_1 : k0_pay59 (sent m ρ ⟨21, by decide⟩ c) (lift3 (sent m ρ ⟨21, by decide⟩ (par ⟨21, by decide⟩ c))) = outRow m ρ 1 c := out_step m ρ c ⟨21, by decide⟩ 1 rfl (by decide)
theorem out_2 : k0_pay60 (sent m ρ ⟨22, by decide⟩ c) (lift3 (sent m ρ ⟨22, by decide⟩ (par ⟨22, by decide⟩ c))) = outRow m ρ 2 c := out_step m ρ c ⟨22, by decide⟩ 2 rfl (by decide)
theorem out_3 : k0_pay61 (sent m ρ ⟨23, by decide⟩ c) (lift3 (sent m ρ ⟨23, by decide⟩ (par ⟨23, by decide⟩ c))) = outRow m ρ 3 c := out_step m ρ c ⟨23, by decide⟩ 3 rfl (by decide)

end Cert.Butterfly

end
-- ==== Proof.Rows.lean ====
/- The result's four row blocks, written one after the other. -/
module

public import proofs.«01_k».proof.Proof.Folds

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- An index of the whole, within its row block. -/
def within (i : S512x256.Idx) : S128x256.Idx := fun a : Fin 2 => match a with
  | ⟨0, _⟩ => (⟨(i 0).val % 128, Nat.mod_lt _ (by decide)⟩ : Fin 128)
  | ⟨1, _⟩ => (i 1 : Fin 256)

theorem emb_within (s : Fin 4) (i : S512x256.Idx) (h : (i 0).val / 128 = s.val) : (rowR s).emb (within i) = i := by
  funext a
  apply Fin.ext
  fin_cases a
  · show 128 * s.val + 1 * ((i 0).val % 128) = (i 0).val
    omega
  · show 0 + 1 * (i 1).val = (i 1).val
    omega

theorem row_hit (s : Fin 4) (g : (cc0_stg7_0 : Ref sig .tc).ty.Contents (Elt F)) (w : S128x256.Idx → Elt F .f32) (i : S512x256.Idx)
    (h : (i 0).val / 128 = s.val) : (oM.access (rowR s)).write (Elt F) g w Finset.univ i = w (within i) := by
  have hr := View.read_slice_write_emb (v := oM.view) (Val := Elt F) (rowR s) g w (M := Finset.univ) (x := within i) (Finset.mem_univ _)
  rw [emb_within s i h] at hr
  exact hr

theorem row_miss (s : Fin 4) (g : (cc0_stg7_0 : Ref sig .tc).ty.Contents (Elt F)) (w : S128x256.Idx → Elt F .f32) (i : S512x256.Idx)
    (h : (i 0).val / 128 ≠ s.val) : (oM.access (rowR s)).write (Elt F) g w Finset.univ i = g i := by
  have hy : i ∉ (Finset.univ : Finset (rowR s).shape.Idx).map (rowR s).emb := by
    rw [Rect.map_emb_univ, Rect.mem_set_unit]
    intro hall
    have h0 := hall (0 : Fin 2)
    have h1 : 128 * s.val ≤ (i 0).val ∧ (i 0).val < 128 * s.val + 128 := h0
    omega
  exact View.read_slice_write_of_not_mem (v := oM.view) (Val := Elt F) (rowR s) g w Finset.univ hy

/-- The four row blocks written one after the other make the result. -/
theorem out_written (f : (cc0_stg7_0 : Ref sig .tc).ty.Contents (Elt F)) :
    (oM.access (rowR 3)).write (Elt F) ((oM.access (rowR 2)).write (Elt F) ((oM.access (rowR 1)).write (Elt F) ((oM.access (rowR 0)).write (Elt F) f
      (outRow m ρ 0 c) Finset.univ) (outRow m ρ 1 c) Finset.univ) (outRow m ρ 2 c) Finset.univ) (outRow m ρ 3 c) Finset.univ = outAt m ρ c := by
  funext i
  change S512x256.Idx at i
  have hlt : (i 0).val < 512 := (i 0).isLt
  have key : ∀ s : Fin 4, (i 0).val / 128 = s.val → outRow m ρ s c (within i) = outAt m ρ c i := by
    intro s hs
    have : (⟨(i 0).val / 128, by omega⟩ : Fin 4) = s := Fin.ext hs
    exact congrArg (fun t => outRow m ρ t c (within i)) this.symm
  by_cases h3 : (i 0).val / 128 = 3
  · exact (row_hit 3 _ _ i h3).trans (key 3 h3)
  refine (row_miss 3 _ _ i h3).trans ?_
  by_cases h2 : (i 0).val / 128 = 2
  · exact (row_hit 2 _ _ i h2).trans (key 2 h2)
  refine (row_miss 2 _ _ i h2).trans ?_
  by_cases h1 : (i 0).val / 128 = 1
  · exact (row_hit 1 _ _ i h1).trans (key 1 h1)
  refine (row_miss 1 _ _ i h1).trans ?_
  have h0 : (i 0).val / 128 = 0 := by omega
  exact (row_hit 0 _ _ i h0).trans (key 0 h0)

end Cert.Butterfly

end
-- ==== Proof.Run.lean ====
/- A device's kernel, carried out effect by effect. -/
module

public import proofs.«01_k».proof.Proof.Ghost
public import proofs.«01_k».proof.Proof.Rows

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => in5 m ρ c
    | ⟨6, _⟩ => in6 m ρ c
    | ⟨7, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := N_0
def t₀ : Fin cfg0.N := t0_0
theorem fin_N (t : Fin cfg0.N) : t = t₀ := fin_N0 t

theorem bigSep_W (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole buffers read; row blocks read and written -/

theorem hz : (![0, 0] : Fin 2 → Nat) = fun _ => 0 := funext fun a => by fin_cases a <;> rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CI → ℕ) (c : Dev nD) : sProp 𝕄 :=
  iprop((ghost m ρ K c ∗ cred (tallyAt (barCell c) () 2) ∗ (bigSep Finset.univ fun k => (cred (tallyAt (recvCell c k) () N) : sProp 𝕄))
      ∗ scr0 (F := F) c ∗ scr1 (F := F) c)
    ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

def bodyPost (c : Dev nD) : sProp 𝕄 :=
  iprop(Φ₁ (F := F) c ∗ (dats m ρ 0 c).owesAt () t₀.succ
    ∗ stg c cc0_stg0_0 (in0 m ρ c)
    ∗ stg c cc0_stg1_0 (in1 m ρ c)
    ∗ stg c cc0_stg2_0 (in2 m ρ c)
    ∗ stg c cc0_stg3_0 (in3 m ρ c)
    ∗ stg c cc0_stg4_0 (in4 m ρ c)
    ∗ stg c cc0_stg5_0 (in5 m ρ c)
    ∗ stg c cc0_stg6_0 (in6 m ρ c)
    ∗ stg c cc0_stg7_0 (outAt m ρ c))

/-- A whole buffer is read. -/
theorem wp_whole (c : Dev nD) {cs : CoreSpace} {sh : Shape} {e : EltTy} (M : Memref sig .tc cs sh e) {r : LoadRect sh} {x : r.shape.Idx → Elt F e}
    {f : Buf (Elt F) (M.view.loc (c : Thread nD τ))} (hx : M.view.readAt (Elt F) r f = x)
    {hl : M.view.LoadsAt r} {α : Type} {Q : α → sProp 𝕄} {n : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (n x) Q)
        -∗ wp frame (wpE (defs₀ (F := F)) 𝒱₀ (c : Thread nD τ) none) Set.univ (.op (.load M r hl) n) Q) := by
  subst hx
  exact wp_load 𝒱₀ (c : Thread nD τ) none Set.univ (m := M) (Finset.subset_univ _)

/-- A row block of the activations is read. -/
theorem wp_row (c : Dev nD) (s : Fin 4) {hl : xM.view.LoadsAt (rowR s).toLoadRect} {α : Type} {Q : α → sProp 𝕄}
    {n : ((rowR s).toLoadRect.shape.Idx → Elt F .bf16) → Prog (TpuEff nD τ sig (Elt F) Λ₀ .tc) α} :
    ((c : Thread nD τ).loc cc0_stg0_0 ↦{fullShare} in0 m ρ c : sProp 𝕄)
      ⊢ iprop((((c : Thread nD τ).loc cc0_stg0_0 ↦{fullShare} in0 m ρ c) -∗ wp frame (wpE (defs₀ (F := F)) 𝒱₀ (c : Thread nD τ) none) Set.univ (n (xload m ρ s c)) Q)
        -∗ wp frame (wpE (defs₀ (F := F)) 𝒱₀ (c : Thread nD τ) none) Set.univ (.op (.load xM (rowR s).toLoadRect hl) n) Q) :=
  wp_load 𝒱₀ (c : Thread nD τ) none Set.univ (m := xM) (Finset.subset_univ _)

/-- The last exchange of a row block: the arrival is waited for and read, and the row block of the result is written. -/
theorem wp_last (K : Dev nD × CI → ℕ) (c : Dev nD) (j : Fin 24) (s : Fin 4)
    {pay : ((slotR j).toLoadRect.shape.Idx → Elt F .bf16) → (rowR s).shape.Idx → Elt F .f32}
    (hpay : pay (lift3 (sent m ρ j (par j c))) = outRow m ρ s c) (g : (cc0_stg7_0 : Ref sig .tc).ty.Contents (Elt F))
    {hsrc' : (slotM sendB j).view.WordExact} {hdst' : (slotM recvB j).view.WordExact} {hl' : recvB.view.LoadsAt (slotR j).toLoadRect}
    {hl : oM.view.LoadsAt (rowR s).toLoadRect}
    {hx : (oM.access (rowR s)).Stores Finset.univ} {hm : (Finset.univ : Finset (rowR s).shape.Idx) = Finset.univ ∨ ∀ a, (rowR s).stride a = 1}
    {α : Type} {Q : α → sProp 𝕄}
    {q : ((slotR j).toLoadRect.shape.Idx → Elt F .bf16) → PUnit → Prog (TpuEff nD τ sig (Elt F) Λ₀ .tc) α} :
    (St m ρ K c 24 24 j.val 0 : sProp 𝕄)
      ⊢ iprop(((c : Thread nD τ).loc cc0_stg7_0 ↦{fullShare} g)
        -∗ (St m ρ K c 24 24 (j.val + 1) 0 -∗ ((c : Thread nD τ).loc cc0_stg7_0 ↦{fullShare} (oM.access (rowR s)).write (Elt F) g (outRow m ρ s c) Finset.univ)
            -∗ wp frame (wpE (defs₀ (F := F)) 𝒱₀ (c : Thread nD τ) none) Set.univ (q (lift3 (sent m ρ j (par j c))) ⟨⟩) Q)
        -∗ wp frame (wpE (defs₀ (F := F)) 𝒱₀ (c : Thread nD τ) none) Set.univ
          (.op (.waitDma2 (recvS j) (slotM sendB j) (slotM recvB j) hsrc' hdst') fun _ => .op (.load recvB (slotR j).toLoadRect hl') fun v =>
            .op (.load oM (rowR s).toLoadRect hl) fun _ => .op (.store oM (rowR s) (pay v) Finset.univ hx hm) (q v)) Q) := by
  iintro HSt H7 Hk
  iapply (wp_rwait m ρ K c j rfl j.isLt) $$ HSt; iintro HSt
  iapply (wp_get m ρ K c j (Nat.lt_succ_self _)) $$ HSt; iintro HSt
  iapply (wp_load 𝒱₀ (c : Thread nD τ) none Set.univ (m := oM) (Finset.subset_univ _)) $$ H7; iintro H7
  rw [hpay]
  iapply (wp_store 𝒱₀ (c : Thread nD τ) none Set.univ (m := oM) (r := rowR s) (Mk := Finset.univ) (Finset.subset_univ _)) $$ H7; iintro H7
  iapply Hk $$ HSt
  iexact H7

set_option maxHeartbeats 4000000 in
set_option maxRecDepth 20000 in
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part32_eq_skeleton]; unfold k0_part32_skel
  simp only [k0_part1_eq_skeleton]; unfold k0_part1_skel
  simp only [semSignalWord, semWaitWord, Prog.lift, Prog.bind_op, Prog.bind_ret, Prog.pure_eq_ret, Prog.bind_assoc, wp_deviceId]
  unfold bodyPre ghost
  iintro ⟨⟨⟨⟨#HR, HaB, Ht0, Ht1, HtS, HaS, HtV, HaV⟩, HcB, HcV, Hs0, Hs1⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩⟩, Hk⟩
  have hx0 : g0 = in0 m ρ c := by rw [hg0]; unfold Dat.before; rw [if_pos (by rfl)]; rfl
  subst hx0
  have hx1 : g1 = in1 m ρ c := by rw [hg1]; unfold Dat.before; rw [if_pos (by rfl)]; rfl
  subst hx1
  have hx2 : g2 = in2 m ρ c := by rw [hg2]; unfold Dat.before; rw [if_pos (by rfl)]; rfl
  subst hx2
  have hx3 : g3 = in3 m ρ c := by rw [hg3]; unfold Dat.before; rw [if_pos (by rfl)]; rfl
  subst hx3
  have hx4 : g4 = in4 m ρ c := by rw [hg4]; unfold Dat.before; rw [if_pos (by rfl)]; rfl
  subst hx4
  have hx5 : g5 = in5 m ρ c := by rw [hg5]; unfold Dat.before; rw [if_pos (by rfl)]; rfl
  subst hx5
  have hx6 : g6 = in6 m ρ c := by rw [hg6]; unfold Dat.before; rw [if_pos (by rfl)]; rfl
  subst hx6
  unfold Dat.owesAt Pipeline.owesWithin
  icases Ho with ⟨%W, %hW, HO⟩
  rw [show (dats m ρ 0 c).owed t₀.castSucc = O₀ c from rfl]
  simp only [dev1_eq c, dev2_eq c]
  ihave HS0 := (scr0_slots c) $$ Hs0
  ihave HS1 := (scr1_slots c) $$ Hs1
  ihave HS1 := (recv_deal c) $$ HS1
  icases HS1 with ⟨HP0, HP1⟩
  -- the two signals: each partner gets the receive slots it writes
  unfold O₀
  iapply (Rounds.wp_signal 𝒱₀ ER (Rd m ρ) (c : Thread nD τ) none (dst := (peer false c : Thread nD τ)) (κ := K (peer false c, .inl ()))
      (d := false) (by rw [duties_bar]; exact Finset.mem_univ _) ((amount_bar m ρ (peer false c) false).trans (by decide)) () (O₁ c) rfl)
    $$ [HO Ht0 HP0]
  · isplitr; · iapply (inv_at m ρ K (peer false c, .inl ())); iexact HR
    isplitl [HO]; · iexact HO
    isplitl [Ht0]; · iexact Ht0
    isplitl [HP0]; · rw [payload_bar]; iexact HP0
    iapply (reached_at m ρ K (peer false c, .inl ())); iexact HR
  iintro HO
  unfold O₁
  iapply (Rounds.wp_signal 𝒱₀ ER (Rd m ρ) (c : Thread nD τ) none (dst := (peer true c : Thread nD τ)) (κ := K (peer true c, .inl ()))
      (d := true) (by rw [duties_bar]; exact Finset.mem_univ _) ((amount_bar m ρ (peer true c) true).trans (by decide)) () (owed c 0) rfl)
    $$ [HO Ht1 HP1]
  · isplitr; · iapply (inv_at m ρ K (peer true c, .inl ())); iexact HR
    isplitl [HO]; · iexact HO
    isplitl [Ht1]; · iexact Ht1
    isplitl [HP1]; · rw [payload_bar]; iexact HP1
    iapply (reached_at m ρ K (peer true c, .inl ())); iexact HR
  iintro HO
  -- the weights and the first row block
  iapply (wp_whole c (Memref.whole cc0_stg1_0) (x := in1 m ρ c) (Memref.readAt_unit_zero (Elt F) cc0_stg1_0 hz _ _)) $$ H1; iintro H1
  iapply (wp_whole c (Memref.whole cc0_stg3_0) (x := in3 m ρ c) (Memref.readAt_unit_zero (Elt F) cc0_stg3_0 hz _ _)) $$ H3; iintro H3
  iapply (wp_whole c (Memref.whole cc0_stg5_0) (x := in5 m ρ c) (Memref.readAt_unit_zero (Elt F) cc0_stg5_0 hz _ _)) $$ H5; iintro H5
  iapply (wp_whole c (Memref.whole cc0_stg2_0) (x := in2 m ρ c) (Memref.readAt_unit_zero (Elt F) cc0_stg2_0 hz _ _)) $$ H2; iintro H2
  iapply (wp_whole c (Memref.whole cc0_stg4_0) (x := in4 m ρ c) (Memref.readAt_unit_zero (Elt F) cc0_stg4_0 hz _ _)) $$ H4; iintro H4
  iapply (wp_whole c (Memref.whole cc0_stg6_0) (x := in6 m ρ c) (Memref.readAt_unit_zero (Elt F) cc0_stg6_0 hz _ _)) $$ H6; iintro H6
  iapply (wp_row m ρ c 0) $$ H0; iintro H0
  simp only [k0_part2_eq_skeleton]; unfold k0_part2_skel
  simp only [k0_part3_eq_skeleton]; unfold k0_part3_skel
  simp only [k0_part4_eq_skeleton]; unfold k0_part4_skel
  simp only [w1_0, w1_1, w1_2, w2_0, w2_1, w2_2, keep_0 m ρ c]
  simp only [semSignalWord, semWaitWord, Prog.lift, Prog.bind_op, Prog.bind_ret, Prog.pure_eq_ret, Prog.bind_assoc]
  -- the wait for both partners' signals
  iapply (Rounds.wp_wait_rest_token 𝒱₀ ER (Rd m ρ) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [HcB HO HaB]
  · isplitr; · iapply (inv_at m ρ K (c, .inl ())); iexact HR
    isplitl [HcB]; · iexact HcB
    isplitl [HO]; · iexact HO
    isplitr
    · iapply (mayWait_owed c (.reg barS) 0 (by rw [lv_bar]; decide))
      iapply (lev_at m ρ K); iexact HR
    iexact HaB
  iintro ⟨HO, HaB, -, Hpay⟩
  ihave HPV := (rest_bar m ρ c) $$ Hpay
  imod (Rounds.cell_close ER (Rd m ρ) (Set.mem_univ (K (c, .inl ()))) (fun h => h) (R := 0 + 1) (duties_later m ρ (barCell c))) $$ [HaB] with HzB
  · isplitr; · iapply (inv_at m ρ K (c, .inl ())); iexact HR
    iexact HaB
  ihave HSt := (assemble m ρ K c (insert (SemLoc.reg barS, ()) W)) $$ [HR HS0 HPV HtS HaS HtV HcV HaV HO]
  · isplitr; · iexact HR
    isplitl [HS0]; · iexact HS0
    isplitl [HPV]; · iexact HPV
    isplitl [HtS]; · iexact HtS
    isplitl [HaS]; · iexact HaS
    isplitl [HtV]; · iexact HtV
    isplitl [HcV]; · iexact HcV
    isplitl [HaV] <;> iassumption
  -- the first layer's first exchange
  iapply (wp_first m ρ K c ⟨0, by decide⟩ (b := 0) (pay := k0_pay8 (sent m ρ ⟨0, by decide⟩ c)) (rfl) (dev3_eq c)) $$ HSt; iintro HSt
  iapply (wp_row m ρ c 1) $$ H0; iintro H0
  iapply (wp_first m ρ K c ⟨1, by decide⟩ (b := 0) (pay := k0_pay10 (wi m ρ 0 c) (wo m ρ 0 c) (xload m ρ 1 c)) (congrArg lift3 (keep_1 m ρ c)) (dev4_eq c)) $$ HSt; iintro HSt
  iapply (wp_row m ρ c 2) $$ H0; iintro H0
  iapply (wp_first m ρ K c ⟨2, by decide⟩ (b := 0) (pay := k0_pay12 (wi m ρ 0 c) (wo m ρ 0 c) (xload m ρ 2 c)) (congrArg lift3 (keep_2 m ρ c)) (dev5_eq c)) $$ HSt; iintro HSt
  iapply (wp_row m ρ c 3) $$ H0; iintro H0
  iapply (wp_first m ρ K c ⟨3, by decide⟩ (b := 0) (pay := k0_pay14 (wi m ρ 0 c) (wo m ρ 0 c) (xload m ρ 3 c)) (congrArg lift3 (keep_3 m ρ c)) (dev6_eq c)) $$ HSt; iintro HSt
  -- the three layers
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [Prog.lift, Prog.bind_op, Prog.bind_ret, Prog.pure_eq_ret, Prog.bind_assoc]
  simp only [keep_1 m ρ c, keep_2 m ρ c, keep_3 m ρ c]
  iapply (wp_round m ρ K c ⟨0, by decide⟩ ⟨4, by decide⟩ rfl (pay := fun v => k0_pay16 (sent m ρ ⟨0, by decide⟩ c) v)
    (congrArg lift3 (keep_4 m ρ c)) (dev7_eq c)) $$ HSt; iintro HSt
  simp only [keep_4 m ρ c]
  iapply (wp_round m ρ K c ⟨1, by decide⟩ ⟨5, by decide⟩ rfl (pay := fun v => k0_pay18 (sent m ρ ⟨1, by decide⟩ c) v)
    (congrArg lift3 (keep_5 m ρ c)) (dev8_eq c)) $$ HSt; iintro HSt
  simp only [keep_5 m ρ c]
  iapply (wp_round m ρ K c ⟨2, by decide⟩ ⟨6, by decide⟩ rfl (pay := fun v => k0_pay20 (k0_pay19 (sent m ρ ⟨2, by decide⟩ c) v))
    (congrArg lift3 (keep_6 m ρ c)) (dev9_eq c)) $$ HSt; iintro HSt
  simp only [keep_6 m ρ c]
  iapply (wp_round m ρ K c ⟨3, by decide⟩ ⟨7, by decide⟩ rfl (pay := fun v => k0_pay22 (sent m ρ ⟨3, by decide⟩ c) v)
    (congrArg lift3 (keep_7 m ρ c)) (dev10_eq c)) $$ HSt; iintro HSt
  simp only [keep_7 m ρ c]
  iapply (wp_round m ρ K c ⟨4, by decide⟩ ⟨8, by decide⟩ rfl (pay := fun v => k0_pay24 (k0_pay23 (wi m ρ 1 c) (wo m ρ 1 c) (sent m ρ ⟨4, by decide⟩ c) v))
    (congrArg lift3 (keep_8 m ρ c)) (dev11_eq c)) $$ HSt; iintro HSt
  simp only [keep_8 m ρ c]
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [Prog.lift, Prog.bind_op, Prog.bind_ret, Prog.pure_eq_ret, Prog.bind_assoc]
  iapply (wp_round m ρ K c ⟨5, by decide⟩ ⟨9, by decide⟩ rfl (pay := fun v => k0_pay26 (k0_pay25 (wi m ρ 1 c) (wo m ρ 1 c) (sent m ρ ⟨5, by decide⟩ c) v))
    (congrArg lift3 (keep_9 m ρ c)) (dev12_eq c)) $$ HSt; iintro HSt
  simp only [keep_9 m ρ c]
  iapply (wp_round m ρ K c ⟨6, by decide⟩ ⟨10, by decide⟩ rfl (pay := fun v => k0_pay29 (wo m ρ 1 c) (k0_pay27 (wi m ρ 1 c) (sent m ρ ⟨6, by decide⟩ c) v))
    (congrArg lift3 (keep_10 m ρ c)) (dev13_eq c)) $$ HSt; iintro HSt
  simp only [keep_10 m ρ c]
  iapply (wp_round m ρ K c ⟨7, by decide⟩ ⟨11, by decide⟩ rfl (pay := fun v => k0_pay32 (wi m ρ 1 c) (wo m ρ 1 c) (k0_pay30 (sent m ρ ⟨7, by decide⟩ c) v) (constant S128x512 .f32 0x00000000#32))
    (congrArg lift3 (keep_11 m ρ c)) (dev14_eq c)) $$ HSt; iintro HSt
  simp only [keep_11 m ρ c]
  iapply (wp_round m ρ K c ⟨8, by decide⟩ ⟨12, by decide⟩ rfl (pay := fun v => k0_pay34 (sent m ρ ⟨8, by decide⟩ c) v)
    (congrArg lift3 (keep_12 m ρ c)) (dev15_eq c)) $$ HSt; iintro HSt
  simp only [keep_12 m ρ c]
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [Prog.lift, Prog.bind_op, Prog.bind_ret, Prog.pure_eq_ret, Prog.bind_assoc]
  iapply (wp_round m ρ K c ⟨9, by decide⟩ ⟨13, by decide⟩ rfl (pay := fun v => k0_pay36 (k0_pay35 (sent m ρ ⟨9, by decide⟩ c) v))
    (congrArg lift3 (keep_13 m ρ c)) (dev16_eq c)) $$ HSt; iintro HSt
  simp only [keep_13 m ρ c]
  iapply (wp_round m ρ K c ⟨10, by decide⟩ ⟨14, by decide⟩ rfl (pay := fun v => k0_pay38 (sent m ρ ⟨10, by decide⟩ c) v)
    (congrArg lift3 (keep_14 m ρ c)) (dev17_eq c)) $$ HSt; iintro HSt
  simp only [keep_14 m ρ c]
  iapply (wp_round m ρ K c ⟨11, by decide⟩ ⟨15, by decide⟩ rfl (pay := fun v => k0_pay40 (sent m ρ ⟨11, by decide⟩ c) v)
    (congrArg lift3 (keep_15 m ρ c)) (dev18_eq c)) $$ HSt; iintro HSt
  simp only [keep_15 m ρ c]
  iapply (wp_round m ρ K c ⟨12, by decide⟩ ⟨16, by decide⟩ rfl (pay := fun v => k0_pay42 (wi m ρ 2 c) (wo m ρ 2 c) (sent m ρ ⟨12, by decide⟩ c) v)
    (congrArg lift3 (keep_16 m ρ c)) (dev19_eq c)) $$ HSt; iintro HSt
  simp only [keep_16 m ρ c]
  iapply (wp_round m ρ K c ⟨13, by decide⟩ ⟨17, by decide⟩ rfl (pay := fun v => k0_pay44 (k0_pay43 (wi m ρ 2 c) (wo m ρ 2 c) (sent m ρ ⟨13, by decide⟩ c) v))
    (congrArg lift3 (keep_17 m ρ c)) (dev20_eq c)) $$ HSt; iintro HSt
  simp only [keep_17 m ρ c]
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  simp only [Prog.lift, Prog.bind_op, Prog.bind_ret, Prog.pure_eq_ret, Prog.bind_assoc]
  iapply (wp_round m ρ K c ⟨14, by decide⟩ ⟨18, by decide⟩ rfl (pay := fun v => k0_pay46 (k0_pay45 (wi m ρ 2 c) (wo m ρ 2 c) (sent m ρ ⟨14, by decide⟩ c) v))
    (congrArg lift3 (keep_18 m ρ c)) (dev21_eq c)) $$ HSt; iintro HSt
  simp only [keep_18 m ρ c]
  iapply (wp_round m ρ K c ⟨15, by decide⟩ ⟨19, by decide⟩ rfl (pay := fun v => k0_pay49 (wo m ρ 2 c) (k0_pay47 (wi m ρ 2 c) (sent m ρ ⟨15, by decide⟩ c) v))
    (congrArg lift3 (keep_19 m ρ c)) (dev22_eq c)) $$ HSt; iintro HSt
  simp only [keep_19 m ρ c]
  iapply (wp_round m ρ K c ⟨16, by decide⟩ ⟨20, by decide⟩ rfl (pay := fun v => k0_pay51 (k0_pay50 (sent m ρ ⟨16, by decide⟩ c) v))
    (congrArg lift3 (keep_20 m ρ c)) (dev23_eq c)) $$ HSt; iintro HSt
  simp only [keep_20 m ρ c]
  iapply (wp_round m ρ K c ⟨17, by decide⟩ ⟨21, by decide⟩ rfl (pay := fun v => k0_pay53 (sent m ρ ⟨17, by decide⟩ c) v)
    (congrArg lift3 (keep_21 m ρ c)) (dev24_eq c)) $$ HSt; iintro HSt
  simp only [keep_21 m ρ c]
  simp only [k0_part23_eq_skeleton]; unfold k0_part23_skel
  simp only [k0_part24_eq_skeleton]; unfold k0_part24_skel
  simp only [k0_part25_eq_skeleton]; unfold k0_part25_skel
  simp only [k0_part26_eq_skeleton]; unfold k0_part26_skel
  simp only [Prog.lift, Prog.bind_op, Prog.bind_ret, Prog.pure_eq_ret, Prog.bind_assoc]
  iapply (wp_round m ρ K c ⟨18, by decide⟩ ⟨22, by decide⟩ rfl (pay := fun v => k0_pay55 (sent m ρ ⟨18, by decide⟩ c) v)
    (congrArg lift3 (keep_22 m ρ c)) (dev25_eq c)) $$ HSt; iintro HSt
  simp only [keep_22 m ρ c]
  iapply (wp_round m ρ K c ⟨19, by decide⟩ ⟨23, by decide⟩ rfl (pay := fun v => k0_pay57 (sent m ρ ⟨19, by decide⟩ c) v)
    (congrArg lift3 (keep_23 m ρ c)) (dev26_eq c)) $$ HSt; iintro HSt
  simp only [keep_23 m ρ c]
  -- the result
  iapply (wp_last m ρ K c ⟨20, by decide⟩ 0 (pay := fun v => k0_pay58 (sent m ρ ⟨20, by decide⟩ c) v) (out_0 m ρ c) _) $$ HSt H7; iintro HSt H7
  iapply (wp_last m ρ K c ⟨21, by decide⟩ 1 (pay := fun v => k0_pay59 (sent m ρ ⟨21, by decide⟩ c) v) (out_1 m ρ c) _) $$ HSt H7; iintro HSt H7
  iapply (wp_last m ρ K c ⟨22, by decide⟩ 2 (pay := fun v => k0_pay60 (sent m ρ ⟨22, by decide⟩ c) v) (out_2 m ρ c) _) $$ HSt H7; iintro HSt H7
  iapply (wp_last m ρ K c ⟨23, by decide⟩ 3 (pay := fun v => k0_pay61 (sent m ρ ⟨23, by decide⟩ c) v) (out_3 m ρ c) _) $$ HSt H7; iintro HSt H7
  -- the sent slots are free again
  simp only [k0_part27_eq_skeleton]; unfold k0_part27_skel
  simp only [k0_part28_eq_skeleton]; unfold k0_part28_skel
  simp only [k0_part29_eq_skeleton]; unfold k0_part29_skel
  simp only [k0_part30_eq_skeleton]; unfold k0_part30_skel
  simp only [k0_part31_eq_skeleton]; unfold k0_part31_skel
  simp only [Prog.lift, Prog.bind_op, Prog.bind_ret, Prog.pure_eq_ret, Prog.bind_assoc]
  iapply (wp_swait m ρ K c ⟨0, by decide⟩ (e := 24) (a := 24) (b := 24) rfl (by decide)) $$ HSt; iintro HSt
  iapply (wp_swait m ρ K c ⟨1, by decide⟩ (e := 24) (a := 24) (b := 24) rfl (by decide)) $$ HSt; iintro HSt
  iapply (wp_swait m ρ K c ⟨2, by decide⟩ (e := 24) (a := 24) (b := 24) rfl (by decide)) $$ HSt; iintro HSt
  iapply (wp_swait m ρ K c ⟨3, by decide⟩ (e := 24) (a := 24) (b := 24) rfl (by decide)) $$ HSt; iintro HSt
  iapply (wp_swait m ρ K c ⟨4, by decide⟩ (e := 24) (a := 24) (b := 24) rfl (by decide)) $$ HSt; iintro HSt
  iapply (wp_swait m ρ K c ⟨5, by decide⟩ (e := 24) (a := 24) (b := 24) rfl (by decide)) $$ HSt; iintro HSt
  iapply (wp_swait m ρ K c ⟨6, by decide⟩ (e := 24) (a := 24) (b := 24) rfl (by decide)) $$ HSt; iintro HSt
  iapply (wp_swait m ρ K c ⟨7, by decide⟩ (e := 24) (a := 24) (b := 24) rfl (by decide)) $$ HSt; iintro HSt
  iapply (wp_swait m ρ K c ⟨8, by decide⟩ (e := 24) (a := 24) (b := 24) rfl (by decide)) $$ HSt; iintro HSt
  iapply (wp_swait m ρ K c ⟨9, by decide⟩ (e := 24) (a := 24) (b := 24) rfl (by decide)) $$ HSt; iintro HSt
  iapply (wp_swait m ρ K c ⟨10, by decide⟩ (e := 24) (a := 24) (b := 24) rfl (by decide)) $$ HSt; iintro HSt
  iapply (wp_swait m ρ K c ⟨11, by decide⟩ (e := 24) (a := 24) (b := 24) rfl (by decide)) $$ HSt; iintro HSt
  iapply (wp_swait m ρ K c ⟨12, by decide⟩ (e := 24) (a := 24) (b := 24) rfl (by decide)) $$ HSt; iintro HSt
  iapply (wp_swait m ρ K c ⟨13, by decide⟩ (e := 24) (a := 24) (b := 24) rfl (by decide)) $$ HSt; iintro HSt
  iapply (wp_swait m ρ K c ⟨14, by decide⟩ (e := 24) (a := 24) (b := 24) rfl (by decide)) $$ HSt; iintro HSt
  iapply (wp_swait m ρ K c ⟨15, by decide⟩ (e := 24) (a := 24) (b := 24) rfl (by decide)) $$ HSt; iintro HSt
  iapply (wp_swait m ρ K c ⟨16, by decide⟩ (e := 24) (a := 24) (b := 24) rfl (by decide)) $$ HSt; iintro HSt
  iapply (wp_swait m ρ K c ⟨17, by decide⟩ (e := 24) (a := 24) (b := 24) rfl (by decide)) $$ HSt; iintro HSt
  iapply (wp_swait m ρ K c ⟨18, by decide⟩ (e := 24) (a := 24) (b := 24) rfl (by decide)) $$ HSt; iintro HSt
  iapply (wp_swait m ρ K c ⟨19, by decide⟩ (e := 24) (a := 24) (b := 24) rfl (by decide)) $$ HSt; iintro HSt
  iapply (wp_swait m ρ K c ⟨20, by decide⟩ (e := 24) (a := 24) (b := 24) rfl (by decide)) $$ HSt; iintro HSt
  iapply (wp_swait m ρ K c ⟨21, by decide⟩ (e := 24) (a := 24) (b := 24) rfl (by decide)) $$ HSt; iintro HSt
  iapply (wp_swait m ρ K c ⟨22, by decide⟩ (e := 24) (a := 24) (b := 24) rfl (by decide)) $$ HSt; iintro HSt
  iapply (wp_swait m ρ K c ⟨23, by decide⟩ (e := 24) (a := 24) (b := 24) rfl (by decide)) $$ HSt; iintro HSt
  ihave HF := (finish m ρ K c) $$ HSt
  icases HF with ⟨HF0, HF1, HF2, HF3, ⟨%W', HO⟩⟩
  rw [out_written m ρ c g7]
  rw [wp_ret]; imodintro
  iapply Hk
  unfold bodyPost Φ₁ Dat.owesAt Pipeline.owesWithin
  rw [show (dats m ρ 0 c).owed t₀.succ = 0 from rfl]
  isplitl [HF0 HF1 HF2 HF3 HzB]
  · isplitl [HF0]; · iexact HF0
    isplitl [HF1]; · iexact HF1
    isplitl [HF2]; · iexact HF2
    isplitl [HF3] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; rfl)
  iexact H7

end Cert.Butterfly

end
-- ==== Proof.Obligation.lean ====
/- The body obligation of the pipeline at the one grid point. -/
module

public import proofs.«01_k».proof.Proof.Run

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bodyPre' (c : Dev nD) : sProp 𝕄 :=
  iprop(Φ₀ m ρ c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV⟩, Hs0, Hs1⟩, Hrest⟩
  iapply (sound_body m ρ K c fun _ => bodyPost m ρ c)
  isplitl
  · unfold bodyPre
    isplitl [Hg HcB HcV Hs0 Hs1]
    · isplitl [Hg]; · iexact Hg
      isplitl [HcB]; · iexact HcB
      isplitl [HcV]; · iexact HcV
      isplitl [Hs0] <;> iassumption
    iexact Hrest
  · iintro H; iexact H

end Cert.Butterfly

end
-- ==== Proof.Launch.lean ====
/- The launch: every device's cells are given their schedules, the duties are dealt to the devices that pay them, and the
   whole mesh runs. -/
module

public import proofs.«01_k».proof.Proof.Obligation
public import Idealize.ShloMosaic.Lib.Pipeline.CollectiveSegs

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores. -/
abbrev osem : Fin 24 ⊕ Fin 24 → SemLoc sig
  | .inl k => .dma (sendS k)
  | .inr k => .dma (recvS k)

theorem osem_injective : Function.Injective osem := by
  rintro (j | j) (k | k) h
  · have := congrArg slotOf h; rw [slotOf_send, slotOf_send] at this; rw [(Prod.mk.inj (Option.some.inj this)).2]
  · have := congrArg slotOf h; rw [slotOf_send, slotOf_recv] at this; exact absurd (Prod.mk.inj (Option.some.inj this)).1 (by decide)
  · have := congrArg slotOf h; rw [slotOf_send, slotOf_recv] at this; exact absurd (Prod.mk.inj (Option.some.inj this)).1 (by decide)
  · have := congrArg slotOf h; rw [slotOf_recv, slotOf_recv] at this; rw [(Prod.mk.inj (Option.some.inj this)).2]

set_option maxRecDepth 20000 in
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | j) (_ | k) h
  · rfl
  · rcases k with k | k
    · exact absurd h.symm (send_ne_bar k)
    · exact absurd h.symm (recv_ne_bar k)
  · rcases j with k | k
    · exact absurd h (send_ne_bar k)
    · exact absurd h (recv_ne_bar k)
  · have h' : osem j = osem k := by rcases j with j | j <;> rcases k with k | k <;> exact h
    rw [osem_injective h']

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def allCells : Finset (GSem nD τ sig) := Finset.univ.map ⟨kcell, kcell_injective⟩

/-- A device's own cells' duties: the barrier's two, and one for each send and receive cell. -/
abbrev TI : Type := Bool ⊕ (Fin 24 ⊕ Fin 24)
abbrev tokSem : TI → SemLoc sig × Bool
  | .inl d => (.reg barS, d)
  | .inr k => (osem k, false)
abbrev tokOf (p : Dev nD × TI) : GSem nD τ sig × ℕ × Bool := (((p.1 : Thread nD τ), (tokSem p.2).1), 0, (tokSem p.2).2)

theorem osem_ne_bar (k : Fin 24 ⊕ Fin 24) : osem k ≠ .reg barS := by
  rcases k with k | k
  · exact send_ne_bar k
  · exact recv_ne_bar k

theorem tokSem_injective : Function.Injective tokSem := by
  rintro (d | j) (d' | k) h
  · exact congrArg Sum.inl (congrArg Prod.snd h)
  · exact absurd (congrArg Prod.fst h).symm (osem_ne_bar k)
  · exact absurd (congrArg Prod.fst h) (osem_ne_bar j)
  · exact congrArg Sum.inr (osem_injective (congrArg Prod.fst h))

theorem tokOf_injective : Function.Injective tokOf := by
  rintro ⟨c, j⟩ ⟨c', j'⟩ h
  have h1 : c = c' := congrArg (fun x : GSem nD τ sig × ℕ × Bool => x.1.1.1) h
  have h2 : tokSem j = tokSem j' := Prod.ext (congrArg (fun x : GSem nD τ sig × ℕ × Bool => x.1.2) h) (congrArg (fun x : GSem nD τ sig × ℕ × Bool => x.2.2) h)
  rw [h1, tokSem_injective h2]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-! ## Sums over a device's cells -/

omit [FloatOps F] in
theorem bigSep_bool (Φ : Bool → sProp 𝕄) : bigSep Finset.univ Φ = iprop(Φ false ∗ Φ true) := bigSep_univ_eq_bigSepL [false, true] (by decide) (by decide) Φ

omit [FloatOps F] in
theorem bigSep_CI (Φ : CI → sProp 𝕄) : bigSep Finset.univ Φ = iprop(Φ (.inl ()) ∗ (bigSep Finset.univ fun k => Φ (.inr (.inl k))) ∗ bigSep Finset.univ fun k => Φ (.inr (.inr k))) := by
  rw [bigSep_univ_sum, bigSep_univ_sum, show (Finset.univ : Finset Unit) = {()} from rfl, bigSep_singleton]
  rfl

/-- The duties of device `c`'s own cells. -/
def toks (c : Dev nD) : sProp 𝕄 := bigSep Finset.univ fun j : TI => dutyTok ER (tokOf (c, j)).1 (tokOf (c, j)).2.1 (tokOf (c, j)).2.2

def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt to the devices that pay them -/

/-- The invariants and the rounds reached, without the levels. -/
def shared (K : Dev nD × CI → ℕ) : sProp 𝕄 :=
  iprop((bigSep Finset.univ fun p : Dev nD × CI => cellInv ER (Rd m ρ) (K p) (kcell p))
    ∗ (bigSep Finset.univ fun p : Dev nD × CI => reached ER (kcell p) 0))
instance shared_persistent (K : Dev nD × CI → ℕ) : BI.Persistent (shared m ρ K) := by unfold shared; infer_instance

/-- The duties device `c` pays. -/
def payToks (c : Dev nD) : sProp 𝕄 :=
  iprop(dutyTok ER (barCell (peer false c)) 0 false ∗ dutyTok ER (barCell (peer true c)) 0 true
    ∗ (bigSep Finset.univ fun k => (dutyTok ER (sendCell c k) 0 false : sProp 𝕄)) ∗ bigSep Finset.univ fun k => (dutyTok ER (recvCell (par k c) k) 0 false : sProp 𝕄))
def linear (c : Dev nD) : sProp 𝕄 := iprop((bigSep Finset.univ fun k : CI => atPos ER (kcell (c, k)) 0 ∅ 0) ∗ payToks c)

def G' (c : Dev nD) : sProp 𝕄 := iprop(∃ K, shared m ρ K ∗ linear c)

theorem ghost_intro (K : Dev nD × CI → ℕ) (c : Dev nD) : iprop(shared m ρ K ∗ linear c ∗ levAts L lv) ⊢ (ghost m ρ K c : sProp 𝕄) := by
  unfold shared linear payToks ghost records
  rw [bigSep_CI]
  iintro ⟨⟨HI, HR⟩, ⟨⟨HaB, HaS, HaV⟩, H0, H1, HtS, HtV⟩, Hlev⟩
  isplitl [HI HR Hlev]
  · isplitl [HI]; · iexact HI
    isplitl [HR] <;> iassumption
  isplitl [HaB]; · iexact HaB
  isplitl [H0]; · iexact H0
  isplitl [H1]; · iexact H1
  isplitl [HtS]; · iexact HtS
  isplitl [HaS]; · iexact HaS
  isplitl [HtV]; · iexact HtV
  iexact HaV

omit [FloatOps F] in
theorem toks_eq (c : Dev nD) : (toks c : sProp 𝕄) = iprop((dutyTok ER (barCell c) 0 false ∗ dutyTok ER (barCell c) 0 true)
    ∗ (bigSep Finset.univ fun k => (dutyTok ER (sendCell c k) 0 false : sProp 𝕄)) ∗ bigSep Finset.univ fun k => (dutyTok ER (recvCell c k) 0 false : sProp 𝕄)) := by
  unfold toks; rw [bigSep_univ_sum, bigSep_univ_sum, bigSep_bool]; rfl

omit [FloatOps F] in
/-- Each receive duty goes to the device that sends to it. -/
theorem recv_around : (bigSep Finset.univ fun c : Dev nD => bigSep Finset.univ fun k => (dutyTok ER (recvCell c k) 0 false : sProp 𝕄))
    = bigSep Finset.univ fun c : Dev nD => bigSep Finset.univ fun k => (dutyTok ER (recvCell (par k c) k) 0 false : sProp 𝕄) := by
  rw [bigSep_univ_comm, bigSep_univ_comm (fun c k => (dutyTok ER (recvCell (par k c) k) 0 false : sProp 𝕄))]
  exact bigSep_congr fun k _ => bigSep_univ_equiv (peerE (pm k)) _

omit [FloatOps F] in
theorem toks_around : (bigSep Finset.univ fun c : Dev nD => (toks c : sProp 𝕄)) ⊢ bigSep Finset.univ fun c : Dev nD => payToks c := by
  unfold payToks
  rw [bigSep_congr fun c _ => toks_eq c]
  simp only [bigSep_sep']
  rw [bigSep_univ_equiv (peerE false) (fun c : Dev nD => (dutyTok ER (barCell c) 0 false : sProp 𝕄)),
    bigSep_univ_equiv (peerE true) (fun c : Dev nD => (dutyTok ER (barCell c) 0 true : sProp 𝕄)), recv_around]
  iintro ⟨⟨H1, H2⟩, H3, H4⟩
  isplitl [H1]; · iexact H1
  isplitl [H2]; · iexact H2
  isplitl [H3]; · iexact H3
  iexact H4

theorem deal_one (K : Dev nD × CI → ℕ) (c : Dev nD) : iprop(shared m ρ K ∗ linear c) ⊢ (G' m ρ c : sProp 𝕄) := by
  unfold G'; iintro H; iexists K; iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := shared m ρ K) fun c _ => deal_one m ρ K c)
  isplitr
  · unfold shared; isplitl; · iexact HI
    iexact HR
  · unfold linear
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit each device starts with -/

theorem owed_bar0 (d c : Dev nD) : owed d 0 (barCell c) () = 0 := by
  by_contra h
  obtain ⟨k, -, hk⟩ := owed_pos (Nat.pos_of_ne_zero h)
  exact recv_ne_bar k (congrArg Prod.snd hk).symm

theorem bar_hit (b : Bool) (d c : Dev nD) : (tallyAt (barCell (peer b d)) () 1 : CellTallies nD τ sig Unit) (barCell c) () = if d = peer b c then 1 else 0 := by
  rw [tallyAt_apply]
  by_cases h : d = peer b c
  · subst h; rw [peer_peer, if_pos ⟨rfl, rfl⟩, if_pos rfl]
  · rw [if_neg (fun h' => h ?_), if_neg h]
    have : c = peer b d := congrArg (fun g : GSem nD τ sig => g.1.1) h'.1
    rw [this, peer_peer]

theorem owed_bar (d c : Dev nD) : O₀ d (barCell c) () = (if d = peer true c then 1 else 0) + (if d = peer false c then 1 else 0) := by
  unfold O₀ O₁
  rw [Pi.add_apply, Finsupp.add_apply, Pi.add_apply, Finsupp.add_apply, owed_bar0, Nat.zero_add, bar_hit, bar_hit]

theorem recv_eq {c c' : Dev nD} {j k : Fin 24} (h : recvCell c j = recvCell c' k) : c = c' ∧ j = k := by
  refine ⟨congrArg (fun g : GSem nD τ sig => g.1.1) h, ?_⟩
  have h2 := congrArg (fun g : GSem nD τ sig => slotOf g.2) h
  simp only [slotOf_recv] at h2
  exact (Prod.mk.inj (Option.some.inj h2)).2

theorem owed_recv0 (d c : Dev nD) (k : Fin 24) : owed d 0 (recvCell c k) () = if d = par k c then N else 0 := by
  unfold owed
  rw [Finset.sum_apply, Finsupp.finset_sum_apply, Finset.sum_eq_single k]
  · rw [tallyAt_apply]
    by_cases h : d = par k c
    · subst h; rw [par_par, if_pos ⟨rfl, rfl⟩, if_pos rfl]
    · rw [if_neg (fun h' => h ?_), if_neg h]
      rw [(recv_eq h'.1).1, par_par]
  · intro j _ hj
    rw [tallyAt_apply, if_neg fun h' => hj (recv_eq h'.1).2.symm]
  · intro h; exact absurd (by simp) h

theorem owed_recv (d c : Dev nD) (k : Fin 24) : O₀ d (recvCell c k) () = if d = par k c then N else 0 := by
  unfold O₀ O₁
  rw [Pi.add_apply, Finsupp.add_apply, Pi.add_apply, Finsupp.add_apply, owed_recv0,
    tallyAt_ne_cell (fun h => recv_ne_bar k (congrArg Prod.snd h)), tallyAt_ne_cell (fun h => recv_ne_bar k (congrArg Prod.snd h)), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer true c) fun _ => 1, Finset.sum_ite_eq' Finset.univ (peer false c) fun _ => 1, if_pos (Finset.mem_univ _), if_pos (Finset.mem_univ _)]

theorem launch_recv (c : Dev nD) (k : Fin 24) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (par k c) fun _ => N,
    if_pos (Finset.mem_univ _)]

theorem recvSem_injective : Function.Injective (fun k : Fin 24 => (SemLoc.dma (recvS k) : SemLoc sig)) :=
  fun _ _ h => Sum.inr_injective (osem_injective (a₁ := .inr _) (a₂ := .inr _) h)

theorem creds (c : Dev nD) :
    (Pipeline.launchCred O₀ c : sProp 𝕄) ⊢ iprop(cred (tallyAt (barCell c) () 2) ∗ bigSep Finset.univ fun k => cred (tallyAt (recvCell c k) () N)) := by
  unfold Pipeline.launchCred
  rw [bigSep_univ_at _ (SemLoc.reg barS), launch_bar]
  refine sep_mono_right ?_
  have hs : Finset.univ.map ⟨fun k : Fin 24 => (SemLoc.dma (recvS k) : SemLoc sig), recvSem_injective⟩ ⊆ Finset.univ.erase (SemLoc.reg barS) := by
    intro x hx
    obtain ⟨k, -, rfl⟩ := Finset.mem_map.mp hx
    exact Finset.mem_erase.mpr ⟨recv_ne_bar k, Finset.mem_univ _⟩
  refine (bigSep_subset hs).trans ?_
  rw [bigSep_map]
  exact Entails.of_eq (bigSep_congr fun k _ => congrArg cred (launch_recv c k))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨%K, HS, Hl⟩⟩
  ihave Hc := (creds (F := F) c) $$ Hcr
  icases Hc with ⟨H1, HN⟩
  ihave Hg := (ghost_intro m ρ K c) $$ [Hlev HS Hl]
  · isplitl [HS]; · iexact HS
    isplitl [Hl] <;> iassumption
  imodintro
  unfold start
  isplitl
  · isplitl [Hg]
    · iexists K; iexact Hg
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr0 scr1
  iintro ⟨Hs, -, H0, H1⟩
  isplitl [Hs]; · iexact Hs
  isplitl [H0] <;> iassumption

theorem scr0_join (c : Dev nD) (f₀ : Buf (Elt F) ((c : Thread nD τ).loc cc0_scratch0)) : (bigSep Finset.univ fun k => slotAny (F := F) sendB c k) ⊢ (scr0 (F := F) c : sProp 𝕄) := by
  refine (slots_join sendB c f₀).trans ?_
  unfold scr0
  simp only [Memref.view_whole, View.set_whole]
  exact BI.Entails.refl _
theorem scr1_join (c : Dev nD) (f₀ : Buf (Elt F) ((c : Thread nD τ).loc cc0_scratch1)) : (bigSep Finset.univ fun k => slotAny (F := F) recvB c k) ⊢ (scr1 (F := F) c : sProp 𝕄) := by
  refine (slots_join recvB c f₀).trans ?_
  unfold scr1
  simp only [Memref.view_whole, View.set_whole]
  exact BI.Entails.refl _

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨H0, H1, HzS, HzV, HzB⟩
  isplitl [HzB]; · iexact HzB
  isplitl [HzS HzV]
  · isplitl [HzS] <;> iassumption
  ihave H0' := (scr0_join c (m ((c : Thread nD τ).loc cc0_scratch0))) $$ H0
  ihave H1' := (scr1_join c (m ((c : Thread nD τ).loc cc0_scratch1))) $$ H1
  unfold scr0 scr1
  isplitl [H0'] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, over any float values, every fair run of the four devices ends, with each window's
    array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Butterfly

end
-- ==== Proof.Layer.lean ====
/- A layer of the network as sums over the extended reals: the whole layer, and one device's share of it. -/
module

public import Idealize.ShloMosaic.Lib.MatmulPlain
public import Idealize.ShloMosaic.Lib.StackMember
public import Idealize.ShloMosaic.Lib.Pointwise.Sums
public import Idealize.ShloMosaic.Lib.IdealHost
public import Idealize.ShloMosaic.Lib.Layout

@[expose] public section

noncomputable section

namespace Cert.Layer

open Idealize.ShloMosaic
open scoped BigOperators

abbrev MIn : Type := FVec Ideal ⟨2, ![256, 2048]⟩ .bf16
abbrev MOut : Type := FVec Ideal ⟨2, ![2048, 256]⟩ .bf16
abbrev Row : Type := Fin 256 → EReal

/-- A layer on one row: the product with the first weights, the maximum with zero, the product with the second. -/
def lay (W1 : MIn) (W2 : MOut) (y : Row) : Row := fun j =>
  ∑ h : Fin 2048, max (∑ k : Fin 256, y k * W1 (ix2 k h)) 0 * W2 (ix2 h j)

/-- Position `h` of device `d`'s 512 of the 2048 hidden positions. -/
def at512 (d : Fin 4) (h : Fin 512) : Fin 2048 := ⟨d.val * 512 + h.val, by have := d.isLt; have := h.isLt; omega⟩

/-- Device `d`'s share: the same sum over its 512 hidden positions. -/
def share (W1 : MIn) (W2 : MOut) (y : Row) (d : Fin 4) : Row := fun j =>
  ∑ h : Fin 512, max (∑ k : Fin 256, y k * W1 (ix2 k (at512 d h))) 0 * W2 (ix2 (at512 d h) j)

/-- The layer is the sum of the four shares. -/
theorem lay_eq_shares (W1 : MIn) (W2 : MOut) (y : Row) (j : Fin 256) : lay W1 W2 y j = ∑ d : Fin 4, share W1 W2 y d j :=
  Fin.sum_univ_tiles 4 512 rfl _

/-- The rows after `l` layers. -/
def acts (X : Fin 512 → Row) (W1 : ℕ → MIn) (W2 : ℕ → MOut) : ℕ → Fin 512 → Row
  | 0 => X
  | l + 1 => fun i => lay (W1 l) (W2 l) (acts X W1 W2 l i)

/-- A device's columns of the first weights are those at its hidden positions; -/
theorem block_cols (W : MIn) (d : Fin 4) (k : Fin 256) (h : Fin 512) :
    Layout.block ⟨2, ![256, 512]⟩ ⟨2, ![256, 2048]⟩ 1 4 d W (by decide) (ix2 k h) = W (ix2 k (at512 d h)) := by
  rw [Layout.block_apply]
  refine congrArg W (funext fun a => Fin.ext ?_)
  match a with
  | ⟨0, _⟩ => rfl
  | ⟨1, _⟩ => rfl
/-- its rows of the second weights likewise. -/
theorem block_rows (W : MOut) (d : Fin 4) (h : Fin 512) (j : Fin 256) :
    Layout.block ⟨2, ![512, 256]⟩ ⟨2, ![2048, 256]⟩ 0 4 d W (by decide) (ix2 h j) = W (ix2 (at512 d h) j) := by
  rw [Layout.block_apply]
  refine congrArg W (funext fun a => Fin.ext ?_)
  match a with
  | ⟨0, _⟩ => rfl
  | ⟨1, _⟩ => rfl

end Cert.Layer

end
-- ==== Proof.Values.lean ====
/- The kernel's values over the extended reals: each device's row blocks after each layer are the rows of the layer. -/
module

public import proofs.«01_k».proof.Proof.Layer
public import proofs.«01_k».proof.Proof.Contents

@[expose] public section

noncomputable section

namespace Cert.Butterfly

open Cert.KernelIdeal Cert.KernelIdeal.Gen

open Idealize.ShloMosaic
open Idealize.ShloMosaic.TcCoe
open Cert.Layer
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem comp_apply (w1 : FVec Ideal S256x512 .bf16) (w2 : FVec Ideal S512x256 .bf16) (y : FVec Ideal S128x256 .bf16) (r : Fin 128) (j : Fin 256) :
    (comp w1 w2 y (ix2 r j) : EReal) = ∑ h : Fin 512, max (∑ k : Fin 256, (y (ix2 r k) * w1 (ix2 k h) : EReal)) 0 * w2 (ix2 h j) := by
  refine (Ideal.matmul_plain_apply (M := 128) (K := 512) (N := 256) (φ₁ := .bf16) (φ₂ := .bf16) none _ _ _ r j).trans ?_
  refine (congrArg₂ (fun a b : EReal => a + b) Ideal.ofBits_zero_f32 rfl).trans ((zero_add _).trans ?_)
  refine Finset.sum_congr rfl fun h _ => ?_
  refine congrArg₂ (fun a b : EReal => max a b * (w2 (ix2 h j) : EReal)) ?_ Ideal.ofBits_zero_f32
  refine (Ideal.matmul_plain_apply (M := 128) (K := 256) (N := 512) (φ₁ := .bf16) (φ₂ := .bf16) none _ _ _ r h).trans ?_
  exact (congrArg₂ (fun a b : EReal => a + b) Ideal.ofBits_zero_f32 rfl).trans (zero_add _)

/-- A device, its partners and its partners' partner are the four devices. -/
theorem four (f : Dev nD → EReal) (b : Bool) (c : Dev nD) :
    (f c + f (peer b c)) + (f (peer (!b) c) + f (peer b (peer (!b) c))) = ∑ d : Fin 4, f d := by
  have h0 : ∀ c : Dev nD, ∀ b : Bool, (c, peer b c, peer (!b) c, peer b (peer (!b) c)) ∈ ([((0 : Fin 4), (1 : Fin 4), (3 : Fin 4), (2 : Fin 4)),
      (0, 3, 1, 2), (1, 0, 2, 3), (1, 2, 0, 3), (2, 3, 1, 0), (2, 1, 3, 0), (3, 2, 0, 1), (3, 0, 2, 1)] : List (Fin 4 × Fin 4 × Fin 4 × Fin 4)) := by decide
  have h := h0 c b
  rw [Fin.sum_univ_four]
  simp only [List.mem_cons, List.not_mem_nil, or_false, Prod.mk.injEq] at h
  rcases h with ⟨h1, h2, h3, h4⟩ | ⟨h1, h2, h3, h4⟩ | ⟨h1, h2, h3, h4⟩ | ⟨h1, h2, h3, h4⟩ | ⟨h1, h2, h3, h4⟩ | ⟨h1, h2, h3, h4⟩ | ⟨h1, h2, h3, h4⟩ | ⟨h1, h2, h3, h4⟩ <;>
    (rw [h4, h3, h2, h1]; ac_rfl)

/-- Row `r` of row block `s`. -/
def row512 (s : Fin 4) (r : Fin 128) : Fin 512 := ⟨128 * s.val + r.val, by have := s.isLt; have := r.isLt; omega⟩

section Layers
variable (X : FVec Ideal S512x256 .bf16) (W1 : ℕ → MIn) (W2 : ℕ → MOut)

/-- Every device holds the same rows after every layer. -/
theorem cur_eq (hx : ∀ s c, xr m ρ s c = fun i => X (ix2 (row512 s (i 0)) (i 1)))
    (h1 : ∀ l c, wi m ρ l c = Layout.block ⟨2, ![256, 512]⟩ ⟨2, ![256, 2048]⟩ 1 4 c (W1 l))
    (h2 : ∀ l c, wo m ρ l c = Layout.block ⟨2, ![512, 256]⟩ ⟨2, ![2048, 256]⟩ 0 4 c (W2 l))
    (s : Fin 4) (l : ℕ) : ∀ (c : Dev nD) (r : Fin 128) (j : Fin 256),
    (cur m ρ s l c (ix2 r j) : EReal) = acts (fun i k => X (ix2 i k)) W1 W2 l (row512 s r) j := by
  induction l with
  | zero => intro c r j; show xr m ρ s c (ix2 r j) = _; rw [hx]; rfl
  | succ l ih =>
    intro c r j
    have hs : ∀ d : Dev nD, (comp (wi m ρ l d) (wo m ρ l d) (cur m ρ s l d) (ix2 r j) : EReal)
        = share (W1 l) (W2 l) (acts (fun i k => X (ix2 i k)) W1 W2 l (row512 s r)) d j := by
      intro d
      rw [comp_apply, h1, h2]
      unfold share
      refine Finset.sum_congr rfl fun h _ => ?_
      rw [block_rows]
      refine congrArg (fun a : EReal => max a 0 * _) (Finset.sum_congr rfl fun k _ => ?_)
      rw [block_cols, ih]
    show _ = lay (W1 l) (W2 l) (acts (fun i k => X (ix2 i k)) W1 W2 l (row512 s r)) j
    rw [lay_eq_shares, ← four (fun d => share (W1 l) (W2 l) (acts (fun i k => X (ix2 i k)) W1 W2 l (row512 s r)) d j) (pd s) c,
      ← hs, ← hs, ← hs, ← hs]
    rfl

end Layers

end Cert.Butterfly

end
-- ==== Proof.Result.lean ====
/- The final memory of the launch in terms of the starting one: every argument array unchanged, the result the network's. -/
module

public import proofs.«01_k».proof.Proof.Launch
public import proofs.«01_k».proof.Proof.Values

@[expose] public section

noncomputable section

namespace Cert.Butterfly

open Cert.KernelIdeal Cert.KernelIdeal.Gen

open Idealize.ShloMosaic
open Idealize.ShloMosaic.TcCoe
open Cert.Layer
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The argument arrays and the result after the launch -/

section Final
variable (m : (ℓ : Loc nD τ sig) → Buf (Elt F) ℓ) (ρ : Dev nD → PrngReg)

theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The seven argument arrays of a device hold what they held. -/
def Kept (σ : MemSt nD τ sig (Elt F)) (c : Dev nD) : Prop :=
  σ.mem (c.tc.loc main_arg0) = m (c.tc.loc main_arg0) ∧ σ.mem (c.tc.loc main_arg1) = m (c.tc.loc main_arg1)
    ∧ σ.mem (c.tc.loc main_arg2) = m (c.tc.loc main_arg2) ∧ σ.mem (c.tc.loc main_arg3) = m (c.tc.loc main_arg3)
    ∧ σ.mem (c.tc.loc main_arg4) = m (c.tc.loc main_arg4) ∧ σ.mem (c.tc.loc main_arg5) = m (c.tc.loc main_arg5)
    ∧ σ.mem (c.tc.loc main_arg6) = m (c.tc.loc main_arg6)

theorem kept_of (r : PUnit × MemSt nD τ sig (Elt F)) (h : QC m ρ r) (c : Dev nD) : Kept m r.2 c :=
  ⟨(h c 0).trans (finalA_in m ρ c 0 rfl), (h c 1).trans (finalA_in m ρ c 1 rfl), (h c 3).trans (finalA_in m ρ c 3 rfl),
    (h c 5).trans (finalA_in m ρ c 5 rfl), (h c 2).trans (finalA_in m ρ c 2 rfl), (h c 4).trans (finalA_in m ρ c 4 rfl),
    (h c 6).trans (finalA_in m ρ c 6 rfl)⟩

theorem finalA_out (c : Dev nD) : (win0_7.blk (0 : Fin 1)).view.read (Elt F) (finalA m ρ c 7) = outAt m ρ c := by
  unfold finalA
  rw [show cfg0.N = ((0 : Fin 1) : Fin cfg0.N).val + 1 from rfl, (dats m ρ 0 c).arrAt_succ 7 (0 : Fin 1)]
  rw [show (cfg0.win 7).flush (0 : Fin 1) = true from by decide, if_pos rfl]
  exact View.read_write_univ _ _

theorem result_eq (c : Dev nD) : finalA m ρ c 7 = outAt m ρ c := by
  have hz : (fun a => (win0_7.index (0 : Fin 1)) a * main_v1.ty.shape.size a) = fun _ => 0 := funext fun a => by fin_cases a <;> decide
  have hr := fun f => Memref.read_access_unit_zero (Elt F) main_v1 hz (fun a => by fin_cases a <;> decide) f
  exact (hr _).symm.trans (finalA_out m ρ c)

/-- The run: the result of each device is its four row blocks, its arguments are unchanged, every semaphore is at zero. -/
theorem run_values : θ_run defs (onTc (τ := τ) (main (F := F))) (s₀ m ρ) (fun r =>
    (∀ c : Dev nD, r.2.mem (c.tc.loc main_v1) = outAt m ρ c ∧ Kept m r.2 c) ∧ r.2.sem = fun _ => 0) :=
  (θ_run defs _ _).mono (fun r h => ⟨fun c => ⟨(h.1 c 7).trans (result_eq m ρ c), kept_of m ρ r h.1 c⟩, h.2⟩) (run_main m ρ)

/-! ## The arrays the values start from -/

theorem in0_eq (c : Dev nD) : in0 m ρ c = m (c.tc.loc main_arg0) :=
  Memref.read_access_unit_zero (Elt F) main_arg0 (funext fun a => by fin_cases a <;> decide) (fun a => by fin_cases a <;> decide) _
theorem in1_eq (c : Dev nD) : in1 m ρ c = m (c.tc.loc main_arg1) :=
  Memref.read_access_unit_zero (Elt F) main_arg1 (funext fun a => by fin_cases a <;> decide) (fun a => by fin_cases a <;> decide) _
theorem in2_eq (c : Dev nD) : in2 m ρ c = m (c.tc.loc main_arg4) :=
  Memref.read_access_unit_zero (Elt F) main_arg4 (funext fun a => by fin_cases a <;> decide) (fun a => by fin_cases a <;> decide) _
theorem in3_eq (c : Dev nD) : in3 m ρ c = m (c.tc.loc main_arg2) :=
  Memref.read_access_unit_zero (Elt F) main_arg2 (funext fun a => by fin_cases a <;> decide) (fun a => by fin_cases a <;> decide) _
theorem in4_eq (c : Dev nD) : in4 m ρ c = m (c.tc.loc main_arg5) :=
  Memref.read_access_unit_zero (Elt F) main_arg5 (funext fun a => by fin_cases a <;> decide) (fun a => by fin_cases a <;> decide) _
theorem in5_eq (c : Dev nD) : in5 m ρ c = m (c.tc.loc main_arg3) :=
  Memref.read_access_unit_zero (Elt F) main_arg3 (funext fun a => by fin_cases a <;> decide) (fun a => by fin_cases a <;> decide) _
theorem in6_eq (c : Dev nD) : in6 m ρ c = m (c.tc.loc main_arg6) :=
  Memref.read_access_unit_zero (Elt F) main_arg6 (funext fun a => by fin_cases a <;> decide) (fun a => by fin_cases a <;> decide) _

end Final

/-! ## The result over the extended reals -/

section Ideal
variable (m : (ℓ : Loc nD τ sig) → Buf (Elt Ideal) ℓ) (ρ : Dev nD → PrngReg)

theorem xr_eq (s : Fin 4) (c : Dev nD) : xr m ρ s c = fun i => (m (c.tc.loc main_arg0) : FVec Ideal S512x256 .bf16) (ix2 (row512 s (i 0)) (i 1)) := by
  unfold xr
  rw [in0_eq]
  refine (shapeCast_self _ _).trans ?_
  funext i
  refine congrArg (m (c.tc.loc main_arg0) : FVec Ideal S512x256 .bf16) (funext fun a => Fin.ext ?_)
  match a with
  | ⟨0, _⟩ => show 128 * s.val + 1 * (i 0).val = 128 * s.val + (i 0).val; omega
  | ⟨1, _⟩ => show 0 + 1 * (i 1).val = (i 1).val; omega

variable (X : FVec Ideal S512x256 .bf16) (W1 : ℕ → MIn) (W2 : ℕ → MOut)

/-- Device `c` holds the whole input, its columns of each first weight and its rows of each second weight. -/
def Holds (c : Dev nD) : Prop :=
  m (c.tc.loc main_arg0) = X
    ∧ m (c.tc.loc main_arg1) = Layout.block ⟨2, ![256, 512]⟩ ⟨2, ![256, 2048]⟩ 1 4 c (W1 0)
    ∧ m (c.tc.loc main_arg2) = Layout.block ⟨2, ![256, 512]⟩ ⟨2, ![256, 2048]⟩ 1 4 c (W1 1)
    ∧ m (c.tc.loc main_arg3) = Layout.block ⟨2, ![256, 512]⟩ ⟨2, ![256, 2048]⟩ 1 4 c (W1 2)
    ∧ m (c.tc.loc main_arg4) = Layout.block ⟨2, ![512, 256]⟩ ⟨2, ![2048, 256]⟩ 0 4 c (W2 0)
    ∧ m (c.tc.loc main_arg5) = Layout.block ⟨2, ![512, 256]⟩ ⟨2, ![2048, 256]⟩ 0 4 c (W2 1)
    ∧ m (c.tc.loc main_arg6) = Layout.block ⟨2, ![512, 256]⟩ ⟨2, ![2048, 256]⟩ 0 4 c (W2 2)

theorem wi_eq (h : ∀ c, Holds m X W1 W2 c) (hc : ∀ l, W1 (l + 2) = W1 2) (l : ℕ) (c : Dev nD) :
    wi m ρ l c = Layout.block ⟨2, ![256, 512]⟩ ⟨2, ![256, 2048]⟩ 1 4 c (W1 l) := by
  obtain ⟨_, h1, h2, h3, _⟩ := h c
  match l with
  | 0 => exact (shapeCast_self _ _).trans ((in1_eq m ρ c).trans h1)
  | 1 => exact (shapeCast_self _ _).trans ((in3_eq m ρ c).trans h2)
  | l + 2 => rw [hc]; exact (shapeCast_self _ _).trans ((in5_eq m ρ c).trans h3)
theorem wo_eq (h : ∀ c, Holds m X W1 W2 c) (hc : ∀ l, W2 (l + 2) = W2 2) (l : ℕ) (c : Dev nD) :
    wo m ρ l c = Layout.block ⟨2, ![512, 256]⟩ ⟨2, ![2048, 256]⟩ 0 4 c (W2 l) := by
  obtain ⟨_, _, _, _, h1, h2, h3⟩ := h c
  match l with
  | 0 => exact (shapeCast_self _ _).trans ((in2_eq m ρ c).trans h1)
  | 1 => exact (shapeCast_self _ _).trans ((in4_eq m ρ c).trans h2)
  | l + 2 => rw [hc]; exact (shapeCast_self _ _).trans ((in6_eq m ρ c).trans h3)

theorem wide_apply (v : FVec Ideal S128x256 .bf16) (i : S128x256.Idx) : (extf .f32 v bitsLt_bf16_f32 i : EReal) = v i := rfl

/-- Each device's result: the rows after three layers. -/
theorem outAt_apply (h : ∀ c, Holds m X W1 W2 c) (hc1 : ∀ l, W1 (l + 2) = W1 2) (hc2 : ∀ l, W2 (l + 2) = W2 2) (c : Dev nD) (i : Fin 512) (j : Fin 256) :
    ((outAt m ρ c : FVec Ideal S512x256 .f32) (ix2 i j) : EReal) = acts (fun i k => X (ix2 i k)) W1 W2 3 i j := by
  have hx : ∀ s c, xr m ρ s c = fun i => X (ix2 (row512 s (i 0)) (i 1)) := fun s c => by rw [xr_eq, (h c).1]
  have hi : i.val / 128 < 4 := by have := i.isLt; omega
  have h1 : (outAt m ρ c : FVec Ideal S512x256 .f32) (ix2 i j) = outRow m ρ ⟨i.val / 128, hi⟩ c (ix2 (⟨i.val % 128, Nat.mod_lt _ (by decide)⟩ : Fin 128) j) :=
    congrArg (outRow m ρ ⟨i.val / 128, hi⟩ c) (funext fun a => by match a with | ⟨0, _⟩ => rfl | ⟨1, _⟩ => rfl)
  refine (h1.trans (wide_apply (cur m ρ ⟨i.val / 128, hi⟩ 3 c) _)).trans ((cur_eq m ρ X W1 W2 hx (wi_eq m ρ X W1 W2 h hc1) (wo_eq m ρ X W1 W2 h hc2) ⟨i.val / 128, hi⟩ 3 c
    ⟨i.val % 128, Nat.mod_lt _ (by decide)⟩ j).trans ?_)
  exact congrArg (fun i => acts (fun i k => X (ix2 i k)) W1 W2 3 i j) (Fin.ext (Nat.div_add_mod i.val 128))

end Ideal

end Cert.Butterfly

end
-- ==== Proof.Reference.lean ====
/- The reference's run over the extended reals: each of its layers is the layer of `Layer.lean`. -/
module

public import proofs.«01_k».proof.Proof.Layer
public import proofs.«01_k».proof.Proof.Gen.ReferenceIdeal.Run

@[expose] public section

noncomputable section

namespace Cert.RefValue

open Cert.ReferenceIdeal Cert.ReferenceIdeal.Gen Cert.Layer
open Idealize.ShloMosaic Idealize.ShloMosaic.TcCoe Idealize.SL.Sem
open scoped BigOperators

/-- One layer as the reference computes it. -/
def refLayer (W1 : FVec Ideal S256x2048 .bf16) (W2 : FVec Ideal S2048x256 .bf16) (A : FVec Ideal S512x256 .bf16) : FVec Ideal S512x256 .bf16 :=
  truncf .bf16 (Host.dotGeneral dot_S512x2048_S2048x256_S512x256_1_0_0_1_n_n none (extf .f32
    (maximumf (truncf .bf16 (Host.dotGeneral dot_S512x256_S256x2048_S512x2048_1_0_0_1_n_n none (extf .f32 A bitsLt_bf16_f32) (extf .f32 W1 bitsLt_bf16_f32)) bitsLt_bf16_f32)
      (broadcastInDim S512x2048 ![] bcast_S_S512x2048 (constant S_ .bf16 0x0000#16))) bitsLt_bf16_f32) (extf .f32 W2 bitsLt_bf16_f32)) bitsLt_bf16_f32

theorem refLayer_apply (W1 : FVec Ideal S256x2048 .bf16) (W2 : FVec Ideal S2048x256 .bf16) (A : FVec Ideal S512x256 .bf16) (i : Fin 512) (j : Fin 256) :
    refLayer W1 W2 A (ix2 i j) = lay W1 W2 (fun k => A (ix2 i k)) j := by
  unfold lay
  refine (StackMember.dotGeneral_plain_apply (m := 512) (n := 256) (k := 2048) (φ₁ := .f32) (φ₂ := .f32) none _ _ i j).trans ?_
  refine Finset.sum_congr rfl fun h _ => ?_
  refine congrArg₂ (fun a b : EReal => max a b * (W2 (ix2 h j) : EReal)) ?_ Ideal.ofBits_zero_bf16
  exact StackMember.dotGeneral_plain_apply (m := 512) (n := 2048) (k := 256) (φ₁ := .f32) (φ₂ := .f32) none _ _ i h

/-- The reference's result. -/
def refOut (X : FVec Ideal S512x256 .bf16) (W1 : ℕ → FVec Ideal S256x2048 .bf16) (W2 : ℕ → FVec Ideal S2048x256 .bf16) : FVec Ideal S512x256 .f32 :=
  extf .f32 (refLayer (W1 2) (W2 2) (refLayer (W1 1) (W2 1) (refLayer (W1 0) (W2 0) X))) bitsLt_bf16_f32

theorem refOut_apply (X : FVec Ideal S512x256 .bf16) (W1 : ℕ → FVec Ideal S256x2048 .bf16) (W2 : ℕ → FVec Ideal S2048x256 .bf16) (i : Fin 512) (j : Fin 256) :
    refOut X W1 W2 (ix2 i j) = acts (fun i k => X (ix2 i k)) W1 W2 3 i j := by
  show refLayer (W1 2) (W2 2) (refLayer (W1 1) (W2 1) (refLayer (W1 0) (W2 0) X)) (ix2 i j) = _
  simp only [refLayer_apply]
  rfl

variable (m : (ℓ : Loc nD τ sig) → Buf (Elt Ideal) ℓ)

/-- The weights, by layer. -/
def w1 : ℕ → FVec Ideal S256x2048 .bf16
  | 0 => m ((0 : Dev nD).tc.loc main_arg1)
  | 1 => m ((0 : Dev nD).tc.loc main_arg2)
  | _ => m ((0 : Dev nD).tc.loc main_arg3)
def w2 : ℕ → FVec Ideal S2048x256 .bf16
  | 0 => m ((0 : Dev nD).tc.loc main_arg4)
  | 1 => m ((0 : Dev nD).tc.loc main_arg5)
  | _ => m ((0 : Dev nD).tc.loc main_arg6)

def out : FVec Ideal S512x256 .f32 := refOut (m ((0 : Dev nD).tc.loc main_arg0)) (w1 m) (w2 m)

theorem run_out (ρ : Dev nD → PrngReg) : θ_run defs (onTc (τ := τ) (main (F := Ideal))) ⟨m, fun _ => 0, ρ⟩ fun r =>
    r.2.mem ((0 : Dev nD).tc.loc main_v30) = out m
      ∧ r.2.mem ((0 : Dev nD).tc.loc main_arg0) = m ((0 : Dev nD).tc.loc main_arg0)
      ∧ r.2.mem ((0 : Dev nD).tc.loc main_arg1) = m ((0 : Dev nD).tc.loc main_arg1)
      ∧ r.2.mem ((0 : Dev nD).tc.loc main_arg2) = m ((0 : Dev nD).tc.loc main_arg2)
      ∧ r.2.mem ((0 : Dev nD).tc.loc main_arg3) = m ((0 : Dev nD).tc.loc main_arg3)
      ∧ r.2.mem ((0 : Dev nD).tc.loc main_arg4) = m ((0 : Dev nD).tc.loc main_arg4)
      ∧ r.2.mem ((0 : Dev nD).tc.loc main_arg5) = m ((0 : Dev nD).tc.loc main_arg5)
      ∧ r.2.mem ((0 : Dev nD).tc.loc main_arg6) = m ((0 : Dev nD).tc.loc main_arg6) :=
  (θ_run defs _ _).mono (fun _ h => ⟨(h 0).1.trans rfl, (h 0).2⟩) (Cert.ReferenceIdeal.Value.run (F := Ideal) m ρ)

theorem frame (ρ : Dev nD → PrngReg) : θ_run defs (onTc (τ := τ) (main (F := Ideal))) ⟨m, fun _ => 0, ρ⟩ fun r => (∀ c : Dev nD,
    r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) ∧ r.2.sem = fun _ => 0 :=
  (θ_run defs _ _).mono (fun r h => ⟨fun c => (h c).2, sem_eq_zero_of_no_sems (by decide) r.2⟩) (Cert.ReferenceIdeal.Value.run (F := Ideal) m ρ)

end Cert.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.SL.Sem

/-- The run over any float values, with the values dropped. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c, Cert.Butterfly.Kept m r.2 c) ∧ r.2.sem = fun _ => 0) :=
  (θ_run Cert.KernelIdeal.defs _ _).mono (fun _ h => ⟨fun c => (h.1 c).2, h.2⟩) (Cert.Butterfly.run_values m ρ)

set_option maxRecDepth 100000 in
/-- The two kernels are the same text: their bodies are equal, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  rcases l with ⟨l, hl⟩
  obtain rfl : l = 0 := by have : l < 1 := hl; omega
  rfl

set_option maxRecDepth 100000 in
/-- and so are their tables; -/
theorem tables_eq : Cert.Kernel.defs (F := Bits) = Cert.KernelIdeal.defs (F := Bits) := congrArg (Pipeline.defs _) bodies_eq

/-- the run is one of any equal table, -/
theorem run_of_eq {F : FTy → Type} [FloatOps F] (m : (ℓ : Loc Cert.KernelIdeal.nD Cert.KernelIdeal.τ Cert.KernelIdeal.sig) → Buf (Elt F) ℓ)
    (ρ : Dev Cert.KernelIdeal.nD → PrngReg) (D) (h : D = Cert.KernelIdeal.defs) :
    θ_run D (onTc (τ := Cert.KernelIdeal.τ) (Cert.KernelIdeal.main (F := F))) ⟨m, fun _ => 0, ρ⟩
      (fun r => (∀ c, Cert.Butterfly.Kept m r.2 c) ∧ r.2.sem = fun _ => 0) := h ▸ run_kept m ρ

set_option maxRecDepth 100000 in
/-- and serves both kernels. -/
theorem frame_kernel : Cert.quiescent_Kernel := fun m ρ _ => run_of_eq (F := Bits) m ρ Cert.Kernel.defs tables_eq

theorem frame_ideal : Cert.quiescent_KernelIdeal := fun m ρ _ => run_kept (F := Ideal) m ρ

theorem frame_reference : Cert.quiescent_ReferenceIdeal := fun m ρ _ => Cert.RefValue.frame m ρ

/-- Each device's result is the reference's. -/
theorem outAt_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (h : ∀ c, Cert.Butterfly.Holds m (m' ((0 : Dev Cert.ReferenceIdeal.nD).tc.loc Cert.ReferenceIdeal.main_arg0)) (Cert.RefValue.w1 m') (Cert.RefValue.w2 m') c)
    (c : Dev Cert.KernelIdeal.nD) : Cert.Butterfly.outAt m ρ c = Cert.RefValue.out m' := by
  refine funext fun i => ?_
  obtain ⟨a, b, rfl⟩ : ∃ (a : Fin 512) (b : Fin 256), i = ix2 a b := ⟨i 0, i 1, (ix2_eta i).symm⟩
  exact (Cert.Butterfly.outAt_apply m ρ _ _ _ h (fun _ => rfl) (fun _ => rfl) c a b).trans (Cert.RefValue.refOut_apply _ _ _ a b).symm

theorem algebraic : Cert.algebraic_KernelIdeal_ReferenceIdeal := by
  intro m ρ m' ρ' _ hagree
  refine ⟨Cert.RefValue.out m', ?_, ?_⟩
  · exact (θ_run Cert.KernelIdeal.defs _ _).mono (fun _ h c => ⟨(h.1 c).1.trans (outAt_eq m ρ m' hagree c), (h.1 c).2⟩)
      (Cert.Butterfly.run_values (F := Ideal) m ρ)
  · exact Cert.RefValue.run_out m' ρ'

theorem claim : Cert.Claim := ⟨Cert.Kernel.Gen.facts, Cert.KernelIdeal.Gen.facts, Cert.ReferenceIdeal.Gen.facts,
  frame_kernel, frame_ideal, frame_reference, trivial, algebraic⟩

end Cert.Proof

end
